-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x768 : Shape := ⟨3, ![4, 2048, 768]⟩
abbrev S4x2048 : Shape := ⟨2, ![4, 2048]⟩
abbrev S1536x42 : Shape := ⟨2, ![1536, 42]⟩
abbrev S42 : Shape := ⟨1, ![42]⟩
abbrev S_ : Shape := ⟨0, ![]⟩
abbrev S4x2048x1 : Shape := ⟨3, ![4, 2048, 1]⟩
abbrev S4x256 : Shape := ⟨2, ![4, 256]⟩
abbrev S128x32 : Shape := ⟨2, ![128, 32]⟩
abbrev S2048 : Shape := ⟨1, ![2048]⟩
abbrev S32 : Shape := ⟨1, ![32]⟩
abbrev S1x2048 : Shape := ⟨2, ![1, 2048]⟩
abbrev S1x128x32 : Shape := ⟨3, ![1, 128, 32]⟩
abbrev S16 : Shape := ⟨1, ![16]⟩
abbrev S1 : Shape := ⟨1, ![1]⟩
abbrev S1x16 : Shape := ⟨2, ![1, 16]⟩
abbrev S1x32 : Shape := ⟨2, ![1, 32]⟩
abbrev S4x1024 : Shape := ⟨2, ![4, 1024]⟩
abbrev S1x2048x512 : Shape := ⟨3, ![1, 2048, 512]⟩
abbrev S1x2048x1 : Shape := ⟨3, ![1, 2048, 1]⟩
abbrev S2048x512 : Shape := ⟨2, ![2048, 512]⟩
abbrev S256x8x512 : Shape := ⟨3, ![256, 8, 512]⟩
abbrev S2048x1 : Shape := ⟨2, ![2048, 1]⟩
abbrev S256x8x1 : Shape := ⟨3, ![256, 8, 1]⟩
abbrev S8x512 : Shape := ⟨2, ![8, 512]⟩
abbrev S512 : Shape := ⟨1, ![512]⟩
abbrev S1x512 : Shape := ⟨2, ![1, 512]⟩
abbrev S1x42 : Shape := ⟨2, ![1, 42]⟩
abbrev S4x42 : Shape := ⟨2, ![4, 42]⟩
abbrev S4 : Shape := ⟨1, ![4]⟩
abbrev S4x1 : Shape := ⟨2, ![4, 1]⟩
abbrev S1x4x1 : Shape := ⟨3, ![1, 4, 1]⟩
abbrev S1x1x1 : Shape := ⟨3, ![1, 1, 1]⟩
abbrev S4x512 : Shape := ⟨2, ![4, 512]⟩
abbrev S4x768 : Shape := ⟨2, ![4, 768]⟩
abbrev S4x1536 : Shape := ⟨2, ![4, 1536]⟩

abbrev nBuf : Table → Nat
  | .hbm => 26
  | .local .tc .vmem => 15
  | .local .scVector .vmem => 6
  | _ => 0

abbrev bufTy : (tb : Table) → Fin (nBuf tb) → BufTy
  | .hbm, ⟨0, _⟩ => ⟨S4x2048x768, .f32⟩
  | .hbm, ⟨1, _⟩ => ⟨S4x2048, .i1⟩
  | .hbm, ⟨2, _⟩ => ⟨S4x2048, .i1⟩
  | .hbm, ⟨3, _⟩ => ⟨S1536x42, .f32⟩
  | .hbm, ⟨4, _⟩ => ⟨S42, .f32⟩
  | .hbm, ⟨5, _⟩ => ⟨S4x2048, .i32⟩
  | .hbm, ⟨6, _⟩ => ⟨S4x2048, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x256, .f32⟩
  | .hbm, ⟨22, _⟩ => ⟨S4x256, .f32⟩
  | .hbm, ⟨23, _⟩ => ⟨S4x1024, .f32⟩
  | .hbm, ⟨24, _⟩ => ⟨S1x42, .f32⟩
  | .hbm, ⟨25, _⟩ => ⟨S4x42, .f32⟩
  | .local .tc .vmem, ⟨0, _⟩ => ⟨S1x2048x512, .f32⟩
  | .local .tc .vmem, ⟨1, _⟩ => ⟨S1x2048x512, .f32⟩
  | .local .tc .vmem, ⟨2, _⟩ => ⟨S1x2048x1, .f32⟩
  | .local .tc .vmem, ⟨3, _⟩ => ⟨S1x2048x1, .f32⟩
  | .local .tc .vmem, ⟨4, _⟩ => ⟨S1x2048x1, .f32⟩
  | .local .tc .vmem, ⟨5, _⟩ => ⟨S1x2048x1, .f32⟩
  | .local .tc .vmem, ⟨6, _⟩ => ⟨S4x1024, .f32⟩
  | .local .tc .vmem, ⟨7, _⟩ => ⟨S4x1024, .f32⟩
  | .local .tc .vmem, ⟨8, _⟩ => ⟨S4x256, .f32⟩
  | .local .tc .vmem, ⟨9, _⟩ => ⟨S4x256, .f32⟩
  | .local .tc .vmem, ⟨10, _⟩ => ⟨S4x2048, .i32⟩
  | .local .tc .vmem, ⟨11, _⟩ => ⟨S4x2048, .i32⟩
  | .local .tc .vmem, ⟨12, _⟩ => ⟨S1536x42, .f32⟩
  | .local .tc .vmem, ⟨13, _⟩ => ⟨S1x42, .f32⟩
  | .local .tc .vmem, ⟨14, _⟩ => ⟨S4x42, .f32⟩
  | .local .scVector .vmem, ⟨0, _⟩ => ⟨S128x32, .f32⟩
  | .local .scVector .vmem, ⟨1, _⟩ => ⟨S128x32, .f32⟩
  | .local .scVector .vmem, ⟨2, _⟩ => ⟨S2048, .i32⟩
  | .local .scVector .vmem, ⟨3, _⟩ => ⟨S2048, .i32⟩
  | .local .scVector .vmem, ⟨4, _⟩ => ⟨S32, .f32⟩
  | .local .scVector .vmem, ⟨5, _⟩ => ⟨S32, .f32⟩
  | _, _ => ⟨S4x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_arg0_scv : Ref sig .scVector := ⟨.hbm, 0, rfl⟩
abbrev main_v0_scv : Ref sig .scVector := ⟨.hbm, 5, rfl⟩
abbrev main_v1_scv : Ref sig .scVector := ⟨.hbm, 6, rfl⟩
abbrev main_v6_0_scv : Ref sig .scVector := ⟨.hbm, 21, rfl⟩
abbrev main_v6_1_scv : Ref sig .scVector := ⟨.hbm, 22, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_26_r0 : BitVec 32 := 0#32
  ![v18.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_10 : BitVec 32 := 0#32
  let c512_i32 : BitVec 32 := 512#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.addi c512_i32 v29
  ![v18.toNat, 0, v30.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c128_i32 : BitVec 32 := 128#32
  let c512_i32 : BitVec 32 := 512#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.addi c512_i32 v29
  ![v18.toNat, 128, v30.toNat]
@[reducible] def k0_t1_loop : Scf.Loop 32 :=
  let c0_i32_16 : BitVec 32 := 0#32
  let c8_i32_17 : BitVec 32 := 8#32
  let v52 : BitVec 32 := Scalar.addi c0_i32_16 c8_i32_17
  let c1_i32_18 : BitVec 32 := 1#32
  ⟨c0_i32_16, v52, c1_i32_18⟩
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_27 : BitVec 32 := 0#32
  let c512_i32 : BitVec 32 := 512#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.addi c512_i32 v29
  ![v18.toNat, 0, v30.toNat]
def k0_off5 (k0_t1 : Fin k0_t1_loop.trips) (c0_i32_30 : BitVec 32) : Fin 1 → Nat :=
  let c2_i32_26 : BitVec 32 := 2#32
  let c0_i32_16 : BitVec 32 := 0#32
  let c1_i32_18 : BitVec 32 := 1#32
  let arg15 : BitVec 32 := Scf.iv c0_i32_16 c1_i32_18 k0_t1
  let v63 : BitVec 32 := Scalar.muli c2_i32_26 arg15
  let c128_i32_29 : BitVec 32 := 128#32
  let v68 : BitVec 32 := Scalar.muli v63 c128_i32_29
  let v69 : BitVec 32 := Scalar.addi v68 c0_i32_30
  let v70 : Index := Scalar.indexCast v69
  ![v70.toNat]
def k0_off6 (i : grid0.Coords) (k0_t1 : Fin k0_t1_loop.trips) (c2_i32_506 : BitVec 32) (c14_i32_507 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_26 : BitVec 32 := 2#32
  let c0_i32_16 : BitVec 32 := 0#32
  let c1_i32_18 : BitVec 32 := 1#32
  let arg15 : BitVec 32 := Scf.iv c0_i32_16 c1_i32_18 k0_t1
  let v63 : BitVec 32 := Scalar.muli c2_i32_26 arg15
  let v3068 : BitVec 32 := Scalar.addi v63 c2_i32_506
  let v3069 : BitVec 32 := Scalar.minsi v3068 c14_i32_507
  let c128_i32_508 : BitVec 32 := 128#32
  let v3070 : BitVec 32 := Scalar.muli v3069 c128_i32_508
  let c512_i32 : BitVec 32 := 512#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let v30 : BitVec 32 := Scalar.addi c512_i32 v29
  ![v18.toNat, v3070.toNat, v30.toNat]
def k0_off6_at (r : Fin 2) : BitVec 32 × BitVec 32 :=
  if r.val < 1 then
    (2#32, 14#32)
  else
    (3#32, 15#32)
def k0_off7 (k0_t1 : Fin k0_t1_loop.trips) (c0_i32_513 : BitVec 32) : Fin 1 → Nat :=
  let c2_i32_26 : BitVec 32 := 2#32
  let c0_i32_16 : BitVec 32 := 0#32
  let c1_i32_18 : BitVec 32 := 1#32
  let arg15 : BitVec 32 := Scf.iv c0_i32_16 c1_i32_18 k0_t1
  let v63 : BitVec 32 := Scalar.muli c2_i32_26 arg15
  let c1_i32_511 : BitVec 32 := 1#32
  let v3079 : BitVec 32 := Scalar.addi v63 c1_i32_511
  let c128_i32_512 : BitVec 32 := 128#32
  let v3080 : BitVec 32 := Scalar.muli v3079 c128_i32_512
  let v3081 : BitVec 32 := Scalar.addi v3080 c0_i32_513
  let v3082 : Index := Scalar.indexCast v3081
  ![v3082.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32_24 : BitVec 32 := 32#32
  let v61 : BitVec 32 := Scalar.muli v28 c32_i32_24
  ![v18.toNat, v61.toNat]
abbrev grid1 : Pipeline.Grid := ⟨1, ![4], ![false]⟩

def k1_off1 (i : grid1.Coords) : Fin 2 → Nat :=
  let arg0 : BitVec 32 := BitVec.ofNat 32 (i 0).val
  let v17 : Index := Scalar.indexCast arg0
  let c0_10 : Index := 0#32
  ![v17.toNat, 0]
def k1_off2 (i : grid1.Coords) : Fin 2 → Nat :=
  let arg0 : BitVec 32 := BitVec.ofNat 32 (i 0).val
  let v21 : Index := Scalar.indexCast arg0
  let c512 : Index := 512#32
  ![v21.toNat, 512]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S4x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x2048 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x2048 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1536x42 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x42 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S4x42 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x768 : Shape := ⟨3, ![4, 2048, 768]⟩
abbrev S4x2048 : Shape := ⟨2, ![4, 2048]⟩
abbrev S1536x42 : Shape := ⟨2, ![1536, 42]⟩
abbrev S42 : Shape := ⟨1, ![42]⟩
abbrev S_ : Shape := ⟨0, ![]⟩
abbrev S4 : Shape := ⟨1, ![4]⟩
abbrev S4x2048x1 : Shape := ⟨3, ![4, 2048, 1]⟩
abbrev S4x768 : Shape := ⟨2, ![4, 768]⟩
abbrev S4x1 : Shape := ⟨2, ![4, 1]⟩
abbrev S4x1536 : Shape := ⟨2, ![4, 1536]⟩
abbrev S4x42 : Shape := ⟨2, ![4, 42]⟩
abbrev S1x42 : Shape := ⟨2, ![1, 42]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x2048, .i1⟩
  | .hbm, ⟨2, _⟩ => ⟨S4x2048, .i1⟩
  | .hbm, ⟨3, _⟩ => ⟨S1536x42, .f32⟩
  | .hbm, ⟨4, _⟩ => ⟨S42, .f32⟩
  | .hbm, ⟨5, _⟩ => ⟨S4x2048, .i32⟩
  | .hbm, ⟨6, _⟩ => ⟨S_, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4x2048x1, .i1⟩
  | .hbm, ⟨11, _⟩ => ⟨S_, .f32⟩
  | .hbm, ⟨12, _⟩ => ⟨S_, .f32⟩
  | .hbm, ⟨13, _⟩ => ⟨S4x2048x768, .i1⟩
  | .hbm, ⟨14, _⟩ => ⟨S4x2048x768, .f32⟩
  | .hbm, ⟨15, _⟩ => ⟨S4x2048x768, .f32⟩
  | .hbm, ⟨16, _⟩ => ⟨S_, .f32⟩
  | .hbm, ⟨17, _⟩ => ⟨S4x768, .f32⟩
  | .hbm, ⟨18, _⟩ => ⟨S4, .i32⟩
  | .hbm, ⟨19, _⟩ => ⟨S4, .i1⟩
  | .hbm, ⟨20, _⟩ => ⟨S4x1, .i1⟩
  | .hbm, ⟨21, _⟩ => ⟨S_, .f32⟩
  | .hbm, ⟨22, _⟩ => ⟨S4x768, .f32⟩
  | .hbm, ⟨23, _⟩ => ⟨S4x768, .f32⟩
  | .hbm, ⟨24, _⟩ => ⟨S4x768, .i1⟩
  | .hbm, ⟨25, _⟩ => ⟨S4x768, .f32⟩
  | .hbm, ⟨26, _⟩ => ⟨S4x2048, .i32⟩
  | .hbm, ⟨27, _⟩ => ⟨S_, .i32⟩
  | .hbm, ⟨28, _⟩ => ⟨S4, .i32⟩
  | .hbm, ⟨29, _⟩ => ⟨S_, .i32⟩
  | .hbm, ⟨30, _⟩ => ⟨S_, .i32⟩
  | .hbm, ⟨31, _⟩ => ⟨S4x2048x1, .i1⟩
  | .hbm, ⟨32, _⟩ => ⟨S_, .f32⟩
  | .hbm, ⟨33, _⟩ => ⟨S_, .f32⟩
  | .hbm, ⟨34, _⟩ => ⟨S4x2048x768, .i1⟩
  | .hbm, ⟨35, _⟩ => ⟨S4x2048x768, .f32⟩
  | .hbm, ⟨36, _⟩ => ⟨S4x2048x768, .f32⟩
  | .hbm, ⟨37, _⟩ => ⟨S_, .f32⟩
  | .hbm, ⟨38, _⟩ => ⟨S4x768, .f32⟩
  | .hbm, ⟨39, _⟩ => ⟨S4, .i32⟩
  | .hbm, ⟨40, _⟩ => ⟨S4, .i1⟩
  | .hbm, ⟨41, _⟩ => ⟨S4x1, .i1⟩
  | .hbm, ⟨42, _⟩ => ⟨S_, .f32⟩
  | .hbm, ⟨43, _⟩ => ⟨S4x768, .f32⟩
  | .hbm, ⟨44, _⟩ => ⟨S4x768, .f32⟩
  | .hbm, ⟨45, _⟩ => ⟨S4x768, .i1⟩
  | .hbm, ⟨46, _⟩ => ⟨S4x768, .f32⟩
  | .hbm, ⟨47, _⟩ => ⟨S4x1536, .f32⟩
  | .hbm, ⟨48, _⟩ => ⟨S4x42, .f32⟩
  | .hbm, ⟨49, _⟩ => ⟨S1x42, .f32⟩
  | .hbm, ⟨50, _⟩ => ⟨S4x42, .f32⟩
  | .hbm, ⟨51, _⟩ => ⟨S4x42, .f32⟩
  | .hbm, ⟨52, _⟩ => ⟨S_, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4x1, .f32⟩
  | .hbm, ⟨58, _⟩ => ⟨S4x42, .f32⟩
  | .hbm, ⟨59, _⟩ => ⟨S4x42, .f32⟩
  | .hbm, ⟨60, _⟩ => ⟨S4x42, .f32⟩
  | .hbm, ⟨61, _⟩ => ⟨S_, .f32⟩
  | .hbm, ⟨62, _⟩ => ⟨S4, .f32⟩
  | .hbm, ⟨63, _⟩ => ⟨S4x1, .f32⟩
  | .hbm, ⟨64, _⟩ => ⟨S4x42, .f32⟩
  | .hbm, ⟨65, _⟩ => ⟨S4x42, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Proof.Chunk.lean ====
module

public import proofs.«01_k».proof.Proof.Gen.KernelIdeal

@[expose] public section

noncomputable section

namespace Cert.Proof.Chunk

open Cert.KernelIdeal Cert.KernelIdeal.Gen
open Idealize.ShloMosaic Idealize.SL.Sem

variable {F : FTy → Type} [FloatOps F]

/-- The programs of one vector subcore. -/
abbrev TP (F : FTy → Type) [FloatOps F] (i : grid0.Coords) (α : Type) : Type 1 :=
  Prog (TpuEff nD τ sig (Elt F) Λ₀ (.scVector ((i 0).castLE hcore0) ((i 1).castLE hsub0))) α

/-- The four running maxima of a chunk: the low and the high sixteen features, under the first and the second mask. -/
structure Acc (F : FTy → Type) where
  lo1 : FVec F S16 .f32
  lo2 : FVec F S16 .f32
  hi1 : FVec F S16 .f32
  hi2 : FVec F S16 .f32

/-- Sixteen mask words as biases: zero where the word is positive, minus infinity elsewhere. -/
def bias (m : Vec F S16 .i32) : FVec F S16 .f32 :=
  select (cmpi .sgt (shapeCast S16 m shapeCasts_S16_S16 : IVec S16 32) (broadcast S16 0#32))
    (broadcast S16 (Scalar.ofBits .f32 0x00000000#32)) (broadcast S16 (Scalar.ofBits .f32 0xFF800000#32))

theorem slices_at (k : ℕ) (h : k < 16) : S16.Slices ![k] S1 :=
  (by decide : ∀ k : Fin 16, S16.Slices ![k.val] S1) ⟨k, h⟩

/-- Bias `k` of sixteen. -/
def biasAt (b : FVec F S16 .f32) (k : ℕ) (h : k < 16) : F .f32 :=
  extractAt ![0] (extractStridedSlice S1 ![k] b (slices_at k h)) inpos_S1_p0

/-- A maximum updated by one token's sixteen features under its bias. -/
def upd (a : FVec F S16 .f32) (v : Vec F S1x16 .f32) (s : F .f32) : FVec F S16 .f32 :=
  maximumf a (addf (shapeCast S16 v shapeCasts_S1x16_S16) (broadcast S16 s))

theorem inb_tok (t c : ℕ) (h : t < 128) (hc : c ≤ 16) : ∀ a, (![t, c] : Fin 2 → Nat) a + S1x16.size a ≤ S128x32.size a := by
  intro a
  fin_cases a
  · show t + 1 ≤ 128; omega
  · show c + 16 ≤ 32; omega

variable (i : grid0.Coords) {α : Type} (x : Memref sig .scVector .vmem S128x32 .f32)

/-- One token: its two loads and the four updates, then `K`. -/
def tok (t : ℕ) (h : t < 128) (s₁ s₂ : F .f32) (a : Acc F) (K : Acc F → TP F i α) : TP F i α :=
  .op (.load x (Rect.unit (s := S128x32) ![t, 0] S1x16.size (inb_tok t 0 h (by decide))).toLoadRect (View.loadsAt_vmem h_S1x16)) fun v =>
  .op (.load x (Rect.unit (s := S128x32) ![t, 16] S1x16.size (inb_tok t 16 h (by decide))).toLoadRect (View.loadsAt_vmem h_S1x16)) fun w =>
  K ⟨upd a.lo1 v s₁, upd a.lo2 v s₂, upd a.hi1 w s₁, upd a.hi2 w s₂⟩

/-- Tokens `k, …, k + n - 1` of group `g`. -/
def toks (g : ℕ) (hg : g < 8) (b₁ b₂ : FVec F S16 .f32) (K : Acc F → TP F i α) : (n k : ℕ) → k + n = 16 → Acc F → TP F i α
  | 0, _, _, a => K a
  | n + 1, k, h, a =>
    tok i x (16 * g + k) (by omega) (biasAt b₁ k (by omega)) (biasAt b₂ k (by omega)) a (toks g hg b₁ b₂ K n (k + 1) (by omega))

variable (m₁ m₂ : Memref sig .scVector .vmem S2048 .i32)
  (off : BitVec 32 → Fin 1 → Nat) (inb : ∀ r : Fin 8, ∀ a, (off (BitVec.ofNat 32 (16 * r.val))) a + S16.size a ≤ S2048.size a)

/-- One group of sixteen tokens: the masks' words, then the tokens. -/
def group (g : ℕ) (hg : g < 8) (a : Acc F) (K : Acc F → TP F i α) : TP F i α :=
  .op (.load m₁ (Rect.unit (s := S2048) (off (BitVec.ofNat 32 (16 * g))) S16.size (inb ⟨g, hg⟩)).toLoadRect (View.loadsAt_vmem h_S16)) fun u =>
  .op (.load m₂ (Rect.unit (s := S2048) (off (BitVec.ofNat 32 (16 * g))) S16.size (inb ⟨g, hg⟩)).toLoadRect (View.loadsAt_vmem h_S16)) fun w =>
  toks i x g hg (bias u) (bias w) K 16 0 rfl a

/-- Groups `g, …, g + n - 1`. -/
def groups (K : Acc F → TP F i α) : (n g : ℕ) → g + n = 8 → Acc F → TP F i α
  | 0, _, _, a => K a
  | n + 1, g, h, a => group i x m₁ m₂ off inb g (by omega) a (groups K n (g + 1) (by omega))

theorem inb_half (c : ℕ) (hc : c ≤ 16) : ∀ a, (![c] : Fin 1 → Nat) a + S16.size a ≤ S32.size a := by
  intro a
  fin_cases a
  show c + 16 ≤ 32; omega

/-- One half of a result updated by a chunk's maximum. -/
def merge (r : Memref sig .scVector .vmem S32 .f32) (c : ℕ) (hc : c ≤ 16) (v : FVec F S16 .f32) (K : TP F i α) : TP F i α :=
  .op (.load r (Rect.unit (s := S32) ![c] S16.size (inb_half c hc)).toLoadRect (View.loadsAt_vmem h_S16)) fun u =>
  .op (.load r (Rect.unit (s := S32) ![c] S16.size (inb_half c hc)).toLoadRect (View.loadsAt_vmem h_S16)) fun _ =>
  .op (.store r (Rect.unit (s := S32) ![c] S16.size (inb_half c hc))
    (shapeCast S16 (maximumf (shapeCast S16 u shapeCasts_S16_S16 : FVec F S16 .f32) v) shapeCasts_S16_S16 : FVec F S16 .f32)
    Finset.univ (View.stores_vmem_bits_univ h_S16 rfl) (.inl rfl)) fun _ => K

/-- A vector of minus infinities. -/
def negInf : FVec F S16 .f32 := broadcast S16 (Scalar.ofBits .f32 0xFF800000#32)

/-- The work on one chunk: its maxima, merged into the two results. -/
def chunk (r₁ r₂ : Memref sig .scVector .vmem S32 .f32) (K : TP F i α) : TP F i α :=
  groups i x m₁ m₂ off inb (fun a =>
    merge i r₁ 0 (by decide) a.lo1 <| merge i r₂ 0 (by decide) a.lo2 <| merge i r₁ 16 (by decide) a.hi1 <| merge i r₂ 16 (by decide) a.hi2 K)
    8 0 rfl ⟨negInf, negInf, negInf, negInf⟩

/-! The windows of the arrays that a subcore copies: its row of a mask, its part of a result, a chunk of the input. -/

abbrev rowOf (i : grid0.Coords) (arg : Memref sig .scVector .hbm S4x2048 .i32) : Memref sig .scVector .hbm S2048 .i32 :=
  (arg.slice (Rect.unit (s := S4x2048) (k0_off1 i) S1x2048.size (k0_off1_inb i)) (fun _ => rfl)).squeeze S2048 squeezes_S1x2048_S2048
abbrev outOf (i : grid0.Coords) (arg : Memref sig .scVector .hbm S4x256 .f32) : Memref sig .scVector .hbm S32 .f32 :=
  (arg.slice (Rect.unit (s := S4x256) (k0_off8 i) S1x32.size (k0_off8_inb i)) (fun _ => rfl)).squeeze S32 squeezes_S1x32_S32
abbrev winOf (arg : Memref sig .scVector .hbm S4x2048x768 .f32) (o : Fin 3 → Nat) (h : ∀ a, o a + S1x128x32.size a ≤ S4x2048x768.size a) :
    Memref sig .scVector .hbm S128x32 .f32 :=
  (arg.slice (Rect.unit (s := S4x2048x768) o S1x128x32.size h) (fun _ => rfl)).squeeze S128x32 squeezes_S1x128x32_S128x32

/-- One trip of the loop: each buffer waited for, worked on, and refetched. -/
def trip (arg2 : Memref sig .scVector .hbm S4x2048x768 .f32) (arg7 arg8 : Memref sig .scVector .vmem S128x32 .f32) (harg7 : arg7.IsWhole) (harg8 : arg8.IsWhole)
    (arg9 arg10 : Memref sig .scVector .vmem S2048 .i32) (arg11 arg12 : Memref sig .scVector .vmem S32 .f32) (arg13 arg14 : DmaSems sig S_)
    (k0_t1 : Fin k0_t1_loop.trips) : TP F i PUnit.{1} :=
  .op (.waitDma2 arg13.sem (winOf arg2 (k0_off4 i) (k0_off4_inb i))
    arg7 ((View.wordExact_bits rfl).reshape _ _) harg7.wordExact) fun _ =>
  chunk i arg7 arg9 arg10 (k0_off5 k0_t1) (k0_off5_inb k0_t1) arg11 arg12 <|
  .op (.enqueueDma (winOf arg2 (k0_off6 i k0_t1 2#32 14#32) (k0_off6_inb i k0_t1 0))
    (.here arg7) (.dma arg13.sem) ((View.wordExact_bits rfl).reshape _ _) harg7.wordExact ⟨Or.inl rfl, trivial⟩) fun _ =>
  .op (.waitDma2 arg14.sem (winOf arg2 (k0_off4 i) (k0_off4_inb i))
    arg8 ((View.wordExact_bits rfl).reshape _ _) harg8.wordExact) fun _ =>
  chunk i arg8 arg9 arg10 (k0_off7 k0_t1) (k0_off7_inb k0_t1) arg11 arg12 <|
  .op (.enqueueDma (winOf arg2 (k0_off6 i k0_t1 3#32 15#32) (k0_off6_inb i k0_t1 1))
    (.here arg8) (.dma arg14.sem) ((View.wordExact_bits rfl).reshape _ _) harg8.wordExact ⟨Or.inl rfl, trivial⟩) fun _ =>
  .ret ⟨⟩

/-- One half of a result set to minus infinity, then `K`. -/
def clear (r : Memref sig .scVector .vmem S32 .f32) (c : ℕ) (hc : c ≤ 16) (K : TP F i α) : TP F i α :=
  .op (.load r (Rect.unit (s := S32) ![c] S16.size (inb_half c hc)).toLoadRect (View.loadsAt_vmem h_S16)) fun _ =>
  .op (.store r (Rect.unit (s := S32) ![c] S16.size (inb_half c hc)) (shapeCast S16 (negInf : FVec F S16 .f32) shapeCasts_S16_S16 : FVec F S16 .f32)
    Finset.univ (View.stores_vmem_bits_univ h_S16 rfl) (.inl rfl)) fun _ => K

/-- The whole body: the masks' rows in, the first two chunks asked for, the results cleared, the loop, the two spare chunks awaited, the results out. -/
def body (arg2 : Memref sig .scVector .hbm S4x2048x768 .f32) (harg2 : arg2.IsWhole) (arg3 : Memref sig .scVector .hbm S4x2048 .i32) (harg3 : arg3.IsWhole)
    (arg4 : Memref sig .scVector .hbm S4x2048 .i32) (harg4 : arg4.IsWhole) (arg5 : Memref sig .scVector .hbm S4x256 .f32) (harg5 : arg5.IsWhole)
    (arg6 : Memref sig .scVector .hbm S4x256 .f32) (harg6 : arg6.IsWhole) (arg7 : Memref sig .scVector .vmem S128x32 .f32) (harg7 : arg7.IsWhole)
    (arg8 : Memref sig .scVector .vmem S128x32 .f32) (harg8 : arg8.IsWhole) (arg9 : Memref sig .scVector .vmem S2048 .i32) (harg9 : arg9.IsWhole)
    (arg10 : Memref sig .scVector .vmem S2048 .i32) (harg10 : arg10.IsWhole) (arg11 : Memref sig .scVector .vmem S32 .f32) (harg11 : arg11.IsWhole)
    (arg12 : Memref sig .scVector .vmem S32 .f32) (harg12 : arg12.IsWhole) (arg13 arg14 : DmaSems sig S_) (r0 r1 r2 r3 : DmaSems sig S_) : TP F i PUnit.{1} :=
  .op (.enqueueDma (rowOf i arg3) (.here arg9) (.dma r0.sem) ((View.wordExact_bits rfl).reshape _ _) harg9.wordExact ⟨Or.inl rfl, trivial⟩) fun _ =>
  .op (.waitDma2 r0.sem (rowOf i arg3) arg9 ((View.wordExact_bits rfl).reshape _ _) harg9.wordExact) fun _ =>
  .op (.enqueueDma (rowOf i arg4) (.here arg10) (.dma r1.sem) ((View.wordExact_bits rfl).reshape _ _) harg10.wordExact ⟨Or.inl rfl, trivial⟩) fun _ =>
  .op (.waitDma2 r1.sem (rowOf i arg4) arg10 ((View.wordExact_bits rfl).reshape _ _) harg10.wordExact) fun _ =>
  .op (.enqueueDma (winOf arg2 (k0_off2 i) (k0_off2_inb i)) (.here arg7) (.dma arg13.sem) ((View.wordExact_bits rfl).reshape _ _) harg7.wordExact ⟨Or.inl rfl, trivial⟩) fun _ =>
  .op (.enqueueDma (winOf arg2 (k0_off3 i) (k0_off3_inb i)) (.here arg8) (.dma arg14.sem) ((View.wordExact_bits rfl).reshape _ _) harg8.wordExact ⟨Or.inl rfl, trivial⟩) fun _ =>
  clear i arg11 0 (by decide) <| clear i arg12 0 (by decide) <| clear i arg11 16 (by decide) <| clear i arg12 16 (by decide) <|
  ((Scf.Loop.for k0_t1_loop k0_t1_ok (⟨⟩ : PUnit) fun k0_t1 _ => trip i arg2 arg7 arg8 harg7 harg8 arg9 arg10 arg11 arg12 arg13 arg14 k0_t1) >>= fun _ => .ret (⟨⟩ : PUnit)) >>= fun _ =>
  .op (.waitDma2 arg13.sem (winOf arg2 (k0_off2 i) (k0_off2_inb i)) arg7 ((View.wordExact_bits rfl).reshape _ _) harg7.wordExact) fun _ =>
  .op (.waitDma2 arg14.sem (winOf arg2 (k0_off2 i) (k0_off2_inb i)) arg8 ((View.wordExact_bits rfl).reshape _ _) harg8.wordExact) fun _ =>
  .op (.enqueueDma arg11 (.here (outOf i arg5)) (.dma r2.sem) harg11.wordExact ((View.wordExact_bits rfl).reshape _ _) ⟨Or.inl rfl, trivial⟩) fun _ =>
  .op (.waitDma2 r2.sem arg11 (outOf i arg5) harg11.wordExact ((View.wordExact_bits rfl).reshape _ _)) fun _ =>
  .op (.enqueueDma arg12 (.here (outOf i arg6)) (.dma r3.sem) harg12.wordExact ((View.wordExact_bits rfl).reshape _ _) ⟨Or.inl rfl, trivial⟩) fun _ =>
  .op (.waitDma2 r3.sem arg12 (outOf i arg6) harg12.wordExact ((View.wordExact_bits rfl).reshape _ _)) fun _ =>
  .ret ⟨⟩

set_option maxRecDepth 1000000 in
/-- The printed body is the structured one. -/
theorem body_eq (arg2 : Memref sig .scVector .hbm S4x2048x768 .f32) (harg2 : arg2.IsWhole) (arg3 : Memref sig .scVector .hbm S4x2048 .i32) (harg3 : arg3.IsWhole)
    (arg4 : Memref sig .scVector .hbm S4x2048 .i32) (harg4 : arg4.IsWhole) (arg5 : Memref sig .scVector .hbm S4x256 .f32) (harg5 : arg5.IsWhole)
    (arg6 : Memref sig .scVector .hbm S4x256 .f32) (harg6 : arg6.IsWhole) (arg7 : Memref sig .scVector .vmem S128x32 .f32) (harg7 : arg7.IsWhole)
    (arg8 : Memref sig .scVector .vmem S128x32 .f32) (harg8 : arg8.IsWhole) (arg9 : Memref sig .scVector .vmem S2048 .i32) (harg9 : arg9.IsWhole)
    (arg10 : Memref sig .scVector .vmem S2048 .i32) (harg10 : arg10.IsWhole) (arg11 : Memref sig .scVector .vmem S32 .f32) (harg11 : arg11.IsWhole)
    (arg12 : Memref sig .scVector .vmem S32 .f32) (harg12 : arg12.IsWhole) (arg13 arg14 : DmaSems sig S_) (r0 r1 r2 r3 : DmaSems sig S_) :
    cc0__sc_body (F := F) i arg2 harg2 arg3 harg3 arg4 harg4 arg5 harg5 arg6 harg6 arg7 harg7 arg8 harg8 arg9 harg9 arg10 harg10 arg11 harg11 arg12 harg12 arg13 arg14 r0 r1 r2 r3
      = body i arg2 harg2 arg3 harg3 arg4 harg4 arg5 harg5 arg6 harg6 arg7 harg7 arg8 harg8 arg9 harg9 arg10 harg10 arg11 harg11 arg12 harg12 arg13 arg14 r0 r1 r2 r3 := rfl

end Cert.Proof.Chunk

end
-- ==== Proof.Own.lean ====
/-
  A memory reference held whole at known contents, as what its view READS (`Has`), and the rules for the operations of
  the SparseCore kernel's body in those terms: a load, a store of a part, a local copy asked for, a copy awaited.
-/
module

public import Idealize.ShloMosaic.Lib.SparseCore.Quiescent
public import Idealize.ShloMosaic.Lib.Transfers
public import Idealize.ShloMosaic.Lib.Writes
public import Idealize.ShloMosaic.Lib.Tactic

@[expose] public section

noncomputable section

namespace Cert.Proof.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V)
variable {s : Shape} {e : EltTy} {α : Type} {Q : α → sProp (MT nD τ sig Ix Val Name U Lvl)}

local notation "𝕄" => MT nD τ sig Ix Val Name U Lvl

/-- The memref's elements, owned outright, at contents that its view reads as `X`. -/
def Has {sp : Space} (m : Memref sig c.2.kind sp s e) (X : s.Idx → Val e) : sProp 𝕄 :=
  iprop(∃ f : Buf Val (m.view.loc c), ⌜m.view.read Val f = X⌝ ∗ (m.view.loc c ↦[m.view.set]{fullShare} f))

omit [Preorder Lvl] in
theorem Has.intro {sp : Space} (m : Memref sig c.2.kind sp s e) (f : Buf Val (m.view.loc c)) :
    (m.view.loc c ↦[m.view.set]{fullShare} f : sProp 𝕄) ⊢ Has c m (m.view.read Val f) := by
  unfold Has
  iintro H
  iexists f
  isplitr; · ipureintro; rfl
  iexact H

/-- What a view reads after a store through a rectangle of it. -/
theorem read_store {κ : Kind} {sp : Space} (v : View sig κ sp s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [View.read_slice_write_emb r f w (Finset.mem_univ x), r.overlay_emb]
  · have hy' : y ∉ Finset.univ.map r.emb := by rwa [Rect.map_emb_univ]
    rw [View.read_slice_write_of_not_mem r _ _ _ hy', r.overlay_of_not_mem _ _ hy]

theorem setOn_sub {κ : Kind} {sp : Space} (v : View sig κ sp s e) (M : Finset s.Idx) : v.setOn M ⊆ v.set := by
  rw [← View.setOn_univ]; exact Finset.map_subset_map.mpr (Finset.subset_univ _)

/-- A load: the program goes on at the contents' elements that the rectangle picks. -/
theorem load {cs : CoreSpace} {m : Memref sig c.2.kind cs s e} {r : Rect s} {hl : m.view.LoadsAt r.toLoadRect} {X : s.Idx → Val e}
    {k : (r.shape.Idx → Val e) → Prog (TpuEff nD τ sig Val Λ c.2) α} :
    (Has c m X : sProp 𝕄) ⊢ iprop((Has c m X -∗ wp frame (wpE defs 𝒱 c bd) Set.univ (k fun j => X (r.emb j)) Q)
      -∗ wp frame (wpE defs 𝒱 c bd) Set.univ (.op (.load m r.toLoadRect hl) k) Q) := by
  unfold Has
  iintro ⟨%f, %hf, H⟩ Hk
  subst hf
  iapply (wp_load (defs := defs) 𝒱 c bd Set.univ (m := m) (r := r.toLoadRect) (S := m.view.set) (setOn_sub _ _)) $$ H
  iintro H
  iapply Hk
  iexists f
  isplitr; · ipureintro; rfl
  iexact H

/-- A store of a rectangle: the contents are overlaid. -/
theorem store {cs : CoreSpace} {m : Memref sig c.2.kind cs s e} {r : Rect s} {w : r.shape.Idx → Val e} {hx : (m.access r).Stores Finset.univ}
    {hm : Finset.univ = Finset.univ ∨ ∀ a, r.stride a = 1} {X : s.Idx → Val e} {k : PUnit → Prog (TpuEff nD τ sig Val Λ c.2) α} :
    (Has c m X : sProp 𝕄) ⊢ iprop((Has c m (r.overlay X w) -∗ wp frame (wpE defs 𝒱 c bd) Set.univ (k ⟨⟩) Q)
      -∗ wp frame (wpE defs 𝒱 c bd) Set.univ (.op (.store m r w Finset.univ hx hm) k) Q) := by
  unfold Has
  iintro ⟨%f, %hf, H⟩ Hk
  subst hf
  iapply (wp_store (defs := defs) 𝒱 c bd Set.univ (m := m) (r := r) (w := w) (hx := hx) (hm := hm) (Mk := Finset.univ) (S := m.view.set) (f := f)
    (by rw [View.setOn_univ, View.set_slice]; exact setOn_sub _ _)) $$ H
  iintro H
  iapply Hk
  iexists _
  isplitr
  swap
  · iexact H
  ipureintro; exact read_store m.view r f w

variable (EC : UEmb Counters (MT nD τ sig Ix Val Name U Lvl))

/-- A copy of `src` into `dst` in flight: it will bring `dst` at what `src` held, and the share of `src` back. -/
abbrev Fly {sp sp' : Space} (src : Memref sig c.2.kind sp s e) (q : PosShare TreeShare) (fs : Buf Val (src.view.loc c))
    (dst : Memref sig c.2.kind sp' s e) (sm : SemLoc sig) (ι : Ix) (N : ℕ) : sProp 𝕄 :=
  Flight EC c sm ι N iprop(Has c dst (src.view.read Val fs) ∗ (src.view.loc c ↦[src.view.set]{q} fs))

/-- A local copy asked for. -/
theorem dma [Infinite Name] [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)} {X : s.Idx → Val e}
    (ι : Ix) (N : ℕ) (hN : dst.view.amount sm = N) (hN0 : 0 < N) :
    iprop((src.view.loc c ↦[src.view.set]{q} fs) ∗ Has c dst X ∗ semVal (c, sm) 0)
      ⊢ iprop((Fly c EC src q fs dst sm ι N -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold Has
  icases Hd with ⟨%fd, %hf, Hd⟩
  iapply (wp_dmaLocal EC 𝒱 c bd (src := src) (dst := dst) (sm := sm) (q := q) (fs := fs) (fd := fd) ι N hN hN0 (Finset.Subset.refl _)) $$ [Hs Hd Hv]
  · isplitl [Hs]; · iexact Hs
    isplitl [Hd] <;> iassumption
  iintro Hf
  iapply Hk
  iapply (Flight_mono EC c ?_) $$ Hf
  iintro ⟨Hd, Hs⟩
  isplitl [Hd]
  swap
  · iexact Hs
  unfold Has
  iexists _
  isplitr
  swap
  · iexact Hd
  ipureintro
  exact View.read_write_univ _ _

/-- A copy awaited. -/
theorem wait [EC.LandsIn (upEmb : UEmb _ 𝕄)] {s' : Shape} {e' : EltTy} {κ' : Kind} {sp sp' : Space} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} :
    iprop(MayWaits c ι O ∗ Flight EC c (.dma sem) ι N D ∗ ∃ W, owes c O W)
      ⊢ iprop((iprop(D ∗ semVal (c, .dma sem) 0 ∗ ∃ W, owes c O W) -∗ wp frame (wpE defs 𝒱 c bd) Set.univ (k ⟨⟩) Q)
          -∗ wp frame (wpE defs 𝒱 c bd) Set.univ (.op (.waitDma2 sem srcw dstw hsrc hdst) k) Q) := by
  iintro ⟨Hmw, Hf, ⟨%W, HO⟩⟩ Hk
  iapply (wp_waitLocalO EC 𝒱 c bd (srcw := srcw) (dstw := dstw) ι hN) $$ [Hmw Hf HO]
  · isplitl [Hf]; · iexact Hf
    isplitl [HO]; · iexact HO
    iapply (MayWaits.elim (SemLoc.dma sem)); iexact Hmw
  iintro ⟨HD, Hv, HO⟩
  iapply Hk
  isplitl [HD]; · iexact HD
  isplitl [Hv]; · iexact Hv
  iexists _; iexact HO

/-! ## A copy out of part of an array of which a share is held -/

/-- A share of the whole array that a memref is a part of. -/
def Src {sp : Space} (m : Memref sig c.2.kind sp s e) (q : PosShare TreeShare) (f : Buf Val (m.view.loc c)) : sProp 𝕄 :=
  m.view.loc c ↦[Finset.univ]{q} f

/-- A copy of `src` into `dst` in flight, with the share of the rest of the source's array. -/
def FlyU {sp sp' : Space} (src : Memref sig c.2.kind sp s e) (q : PosShare TreeShare) (fs : Buf Val (src.view.loc c))
    (dst : Memref sig c.2.kind sp' s e) (sm : SemLoc sig) (ι : Ix) (N : ℕ) : sProp 𝕄 :=
  iprop(Fly c EC src q fs dst sm ι N ∗ (src.view.loc c ↦[Finset.univ \ src.view.set]{q} fs))

theorem dmaU [Infinite Name] [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)} {X : s.Idx → Val e}
    (ι : Ix) (N : ℕ) (hN : dst.view.amount sm = N) (hN0 : 0 < N) :
    iprop(Src c src q fs ∗ Has c dst X ∗ semVal (c, sm) 0)
      ⊢ iprop((FlyU c EC src q fs dst sm ι N -∗ wp frame (wpE defs 𝒱 c bd) Set.univ (k ⟨⟩) Q)
          -∗ wp frame (wpE defs 𝒱 c bd) Set.univ (.op (.enqueueDma src (.here dst) sm hsrc hdst hsem) k) Q) := by
  unfold Src FlyU
  iintro ⟨Hs, Hd, Hv⟩ Hk
  ihave Hs' := (pointsTo_split_subset (Finset.subset_univ src.view.set)).1 $$ Hs
  icases Hs' with ⟨Hs, Hrest⟩
  iapply (dma (defs := defs) 𝒱 c bd EC ι N hN hN0) $$ [Hs Hd Hv]
  · isplitl [Hs]; · iexact Hs
    isplitl [Hd]; · iexact Hd
    iexact Hv
  iintro Hf
  iapply Hk
  isplitl [Hf]; · iexact Hf
  iexact Hrest

theorem waitU [EC.LandsIn (upEmb : UEmb _ 𝕄)] {s' : Shape} {e' : EltTy} {κ' : Kind} {sp sp' sp₁ sp₂ : Space} {sem : DmaSem sig}
    {srcw : Memref sig c.2.kind sp' s' e'} {s'' : Shape} {e'' : EltTy} {dstw : Memref sig κ' sp s'' e''} {hsrc : srcw.view.WordExact} {hdst : dstw.view.WordExact}
    {src : Memref sig c.2.kind sp₁ s e} {dst : Memref sig c.2.kind sp₂ s e} {q : PosShare TreeShare} {fs : Buf Val (src.view.loc c)}
    {k : PUnit → Prog (TpuEff nD τ sig Val Λ c.2) α} (ι : Ix) {N : ℕ} (hN : dstw.view.dmaCredit = N) {O : CellTallies nD τ sig Ix} :
    iprop(MayWaits c ι O ∗ FlyU c EC src q fs dst (.dma sem) ι N ∗ ∃ W, owes c O W)
      ⊢ iprop((iprop(Has c dst (src.view.read Val fs) ∗ Src c src q fs ∗ semVal (c, .dma sem) 0 ∗ ∃ W, owes c O W)
            -∗ wp frame (wpE defs 𝒱 c bd) Set.univ (k ⟨⟩) Q)
          -∗ wp frame (wpE defs 𝒱 c bd) Set.univ (.op (.waitDma2 sem srcw dstw hsrc hdst) k) Q) := by
  unfold Src FlyU
  iintro ⟨Hmw, ⟨Hf, Hrest⟩, HO⟩ Hk
  iapply (wait (defs := defs) 𝒱 c bd EC ι hN) $$ [Hmw Hf HO]
  · isplitl [Hmw]; · iexact Hmw
    isplitl [Hf]; · iexact Hf
    iexact HO
  iintro ⟨⟨Hd, Hs⟩, Hv, HO⟩
  iapply Hk
  isplitl [Hd]; · iexact Hd
  isplitl [Hs Hrest]
  · iapply (pointsTo_split_subset (Finset.subset_univ src.view.set)).2
    isplitl [Hs]; · iexact Hs
    iexact Hrest
  isplitl [Hv]; · iexact Hv
  iexact HO

end Cert.Proof.Own

end
-- ==== Proof.ChunkWp.lean ====
/-
  The work on one chunk, run: from the buffers at known contents, what the tokens' loads and maxima come to
  (`toksV`, `groupsV`), and what the merges leave in the two results.
-/
module

public import proofs.«01_k».proof.Proof.Chunk
public import proofs.«01_k».proof.Proof.Own

@[expose] public section

noncomputable section

namespace Cert.Proof.Chunk

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Own (Has)

variable {F : FTy → Type} [FloatOps F]

/-- The handshakes' rounds. -/
abbrev UH : Type := URounds (GSem nD τ sig) ℕ
/-- The rounds of the TensorCore pipelines. -/
abbrev UP : Type := URounds (GSem nD τ sig) Unit
/-- The certificate's own algebra: the handshakes' rounds, the pipelines' rounds and the transfers' counters. -/
abbrev UU : Type := UH × (UP × Counters)

local notation "𝕄" => MT nD τ sig (HIx 1) (Elt F) ℕ UU ℕ

/-- No function of the kernel needs a measure. -/
abbrev 𝒱₀ : Variants := Variants.none

abbrev cV (L : grid0.Coords) : Fin τ.nSC := (L 0).castLE hcore0
abbrev jV (L : grid0.Coords) : Fin τ.nSub := (L 1).castLE hsub0
/-- The vector subcore that runs the task `L` on device `d`. -/
abbrev VT (d : Dev nD) (L : grid0.Coords) : Thread nD τ := V d (cV L) (jV L)

/-! ## What is computed -/

/-- Sixteen features of token `t`, from column `c`, of a chunk. -/
def rowV (X : S128x32.Idx → F .f32) (t c : ℕ) (h : t < 128) (hc : c ≤ 16) : Vec F S1x16 .f32 :=
  fun j => X ((Rect.unit (s := S128x32) ![t, c] S1x16.size (inb_tok t c h hc)).emb j)

def tokV (X : S128x32.Idx → F .f32) (t : ℕ) (h : t < 128) (s₁ s₂ : F .f32) (a : Acc F) : Acc F :=
  ⟨upd a.lo1 (rowV X t 0 h (by decide)) s₁, upd a.lo2 (rowV X t 0 h (by decide)) s₂,
    upd a.hi1 (rowV X t 16 h (by decide)) s₁, upd a.hi2 (rowV X t 16 h (by decide)) s₂⟩

def toksV (X : S128x32.Idx → F .f32) (g : ℕ) (hg : g < 8) (b₁ b₂ : FVec F S16 .f32) : (n k : ℕ) → k + n = 16 → Acc F → Acc F
  | 0, _, _, a => a
  | n + 1, k, h, a => toksV X g hg b₁ b₂ n (k + 1) (by omega) (tokV X (16 * g + k) (by omega) (biasAt b₁ k (by omega)) (biasAt b₂ k (by omega)) a)

section Groups

variable (X : S128x32.Idx → F .f32) (M₁ M₂ : S2048.Idx → BitVec 32)
  (off : BitVec 32 → Fin 1 → Nat) (inb : ∀ r : Fin 8, ∀ a, (off (BitVec.ofNat 32 (16 * r.val))) a + S16.size a ≤ S2048.size a)

/-- Sixteen words of a mask's row, those of group `g`. -/
def wordsV (M : S2048.Idx → BitVec 32) (g : ℕ) (hg : g < 8) : Vec F S16 .i32 :=
  fun j => M ((Rect.unit (s := S2048) (off (BitVec.ofNat 32 (16 * g))) S16.size (inb ⟨g, hg⟩)).emb j)

def groupsV : (n g : ℕ) → g + n = 8 → Acc F → Acc F
  | 0, _, _, a => a
  | n + 1, g, h, a => groupsV n (g + 1) (by omega)
      (toksV X g (by omega) (bias (wordsV off inb M₁ g (by omega))) (bias (wordsV off inb M₂ g (by omega))) 16 0 rfl a)

/-- The four maxima of a chunk. -/
def chunkV : Acc F := groupsV X M₁ M₂ off inb 8 0 rfl ⟨negInf, negInf, negInf, negInf⟩

end Groups

/-- One half of a result after a merge. -/
def mergeV (R : S32.Idx → F .f32) (c : ℕ) (hc : c ≤ 16) (v : FVec F S16 .f32) : S32.Idx → F .f32 :=
  (Rect.unit (s := S32) ![c] S16.size (inb_half c hc)).overlay R
    (shapeCast S16 (maximumf (shapeCast S16 (fun j => R ((Rect.unit (s := S32) ![c] S16.size (inb_half c hc)).emb j) : S16.Idx → F .f32)
      shapeCasts_S16_S16 : FVec F S16 .f32) v) shapeCasts_S16_S16 : FVec F S16 .f32)

/-- One half of a result set to minus infinity. -/
def clearV (R : S32.Idx → F .f32) (c : ℕ) (hc : c ≤ 16) : S32.Idx → F .f32 :=
  (Rect.unit (s := S32) ![c] S16.size (inb_half c hc)).overlay R (shapeCast S16 (negInf : FVec F S16 .f32) shapeCasts_S16_S16 : FVec F S16 .f32)

/-! ## The runs -/

section Wp

variable (d : Dev nD) (L : grid0.Coords) {α : Type}

/-- A run of a program of the subcore. -/
abbrev wpT (p : TP F L α) (Q : α → sProp 𝕄) : sProp 𝕄 := wp frame (wpE (defs₀ (F := F)) 𝒱₀ (VT d L) none) Set.univ p Q

variable {x : Memref sig .scVector .vmem S128x32 .f32} {X : S128x32.Idx → F .f32}

theorem tok_wp {Q : α → sProp 𝕄} (t : ℕ) (h : t < 128) (s₁ s₂ : F .f32) (a : Acc F) (K : Acc F → TP F L α) :
    (Has (VT d L) x X : sProp 𝕄) ⊢ iprop((Has (VT d L) x X -∗ wpT d L (K (tokV X t h s₁ s₂ a)) Q) -∗ wpT d L (tok L x t h s₁ s₂ a K) Q) := by
  unfold tok
  iintro Hx Hk
  iapply (Own.load (defs := defs₀ (F := F)) 𝒱₀ (VT d L) none (m := x) (X := X)) $$ Hx
  iintro Hx
  iapply (Own.load (defs := defs₀ (F := F)) 𝒱₀ (VT d L) none (m := x) (X := X)) $$ Hx
  iintro Hx
  iapply Hk
  iexact Hx

theorem toks_wp {Q : α → sProp 𝕄} (g : ℕ) (hg : g < 8) (b₁ b₂ : FVec F S16 .f32) (K : Acc F → TP F L α) : ∀ (n k : ℕ) (h : k + n = 16) (a : Acc F),
    (Has (VT d L) x X : sProp 𝕄)
      ⊢ iprop((Has (VT d L) x X -∗ wpT d L (K (toksV X g hg b₁ b₂ n k h a)) Q) -∗ wpT d L (toks L x g hg b₁ b₂ K n k h a) Q)
  | 0, k, h, a => by
    iintro Hx Hk
    iapply Hk $$ Hx
  | n + 1, k, h, a => by
    iintro Hx Hk
    iapply (tok_wp d L (Q := Q) (16 * g + k) _ (biasAt b₁ k _) (biasAt b₂ k _) a
      (toks L x g hg b₁ b₂ K n (k + 1) _)) $$ Hx
    iintro Hx
    iapply (toks_wp g hg b₁ b₂ K n (k + 1) _ _) $$ Hx
    iexact Hk

variable {m₁ m₂ : Memref sig .scVector .vmem S2048 .i32} {M₁ M₂ : S2048.Idx → BitVec 32}
  (off : BitVec 32 → Fin 1 → Nat) (inb : ∀ r : Fin 8, ∀ a, (off (BitVec.ofNat 32 (16 * r.val))) a + S16.size a ≤ S2048.size a)

/-- The three buffers that a chunk's tokens are read from. -/
abbrev Ins (x : Memref sig .scVector .vmem S128x32 .f32) (m₁ m₂ : Memref sig .scVector .vmem S2048 .i32)
    (X : S128x32.Idx → F .f32) (M₁ M₂ : S2048.Idx → BitVec 32) : sProp 𝕄 :=
  iprop(Has (Val := Elt F) (VT d L) x X ∗ Has (Val := Elt F) (VT d L) m₁ M₁ ∗ Has (Val := Elt F) (VT d L) m₂ M₂)

theorem groups_wp {Q : α → sProp 𝕄} (K : Acc F → TP F L α) : ∀ (n g : ℕ) (h : g + n = 8) (a : Acc F),
    (Ins d L x m₁ m₂ X M₁ M₂ : sProp 𝕄)
      ⊢ iprop((Ins d L x m₁ m₂ X M₁ M₂ -∗ wpT d L (K (groupsV X M₁ M₂ off inb n g h a)) Q) -∗ wpT d L (groups L x m₁ m₂ off inb K n g h a) Q)
  | 0, g, h, a => by
    iintro Hx Hk
    iapply Hk $$ Hx
  | n + 1, g, h, a => by
    unfold groups group
    iintro ⟨Hx, H1, H2⟩ Hk
    iapply (Own.load (defs := defs₀ (F := F)) 𝒱₀ (VT d L) none (m := m₁) (X := M₁)) $$ H1
    iintro H1
    iapply (Own.load (defs := defs₀ (F := F)) 𝒱₀ (VT d L) none (m := m₂) (X := M₂)) $$ H2
    iintro H2
    iapply (toks_wp d L g _ _ _ (groups L x m₁ m₂ off inb K n (g + 1) _) 16 0 rfl a) $$ Hx
    iintro Hx
    iapply (groups_wp K n (g + 1) _ _) $$ [Hx H1 H2]
    · isplitl [Hx]; · iexact Hx
      isplitl [H1] <;> iassumption
    iexact Hk

variable {r : Memref sig .scVector .vmem S32 .f32} {R : S32.Idx → F .f32}

theorem merge_wp {Q : α → sProp 𝕄} (c : ℕ) (hc : c ≤ 16) (v : FVec F S16 .f32) (K : TP F L α) :
    (Has (VT d L) r R : sProp 𝕄) ⊢ iprop((Has (VT d L) r (mergeV R c hc v) -∗ wpT d L K Q) -∗ wpT d L (merge L r c hc v K) Q) := by
  unfold merge
  iintro Hr Hk
  iapply (Own.load (defs := defs₀ (F := F)) 𝒱₀ (VT d L) none (m := r) (X := R)) $$ Hr
  iintro Hr
  iapply (Own.load (defs := defs₀ (F := F)) 𝒱₀ (VT d L) none (m := r) (X := R)) $$ Hr
  iintro Hr
  iapply (Own.store (defs := defs₀ (F := F)) 𝒱₀ (VT d L) none (m := r) (X := R)) $$ Hr
  iexact Hk

theorem clear_wp {Q : α → sProp 𝕄} (c : ℕ) (hc : c ≤ 16) (K : TP F L α) :
    (Has (VT d L) r R : sProp 𝕄) ⊢ iprop((Has (VT d L) r (clearV R c hc) -∗ wpT d L K Q) -∗ wpT d L (clear L r c hc K) Q) := by
  unfold clear
  iintro Hr Hk
  iapply (Own.load (defs := defs₀ (F := F)) 𝒱₀ (VT d L) none (m := r) (X := R)) $$ Hr
  iintro Hr
  iapply (Own.store (defs := defs₀ (F := F)) 𝒱₀ (VT d L) none (m := r) (X := R)) $$ Hr
  iexact Hk

/-- A chunk: the buffers back, the two results merged with its maxima. -/
theorem chunk_wp {Q : α → sProp 𝕄} {r₁ r₂ : Memref sig .scVector .vmem S32 .f32} {R₁ R₂ : S32.Idx → F .f32} (K : TP F L α) :
    (iprop(Ins d L x m₁ m₂ X M₁ M₂ ∗ Has (VT d L) r₁ R₁ ∗ Has (VT d L) r₂ R₂) : sProp 𝕄)
      ⊢ iprop((iprop(Ins d L x m₁ m₂ X M₁ M₂
            ∗ Has (VT d L) r₁ (mergeV (mergeV R₁ 0 (by decide) (chunkV X M₁ M₂ off inb).lo1) 16 (by decide) (chunkV X M₁ M₂ off inb).hi1)
            ∗ Has (VT d L) r₂ (mergeV (mergeV R₂ 0 (by decide) (chunkV X M₁ M₂ off inb).lo2) 16 (by decide) (chunkV X M₁ M₂ off inb).hi2))
          -∗ wpT d L K Q) -∗ wpT d L (chunk L x m₁ m₂ off inb r₁ r₂ K) Q) := by
  unfold chunk
  iintro ⟨Hi, H1, H2⟩ Hk
  iapply (groups_wp d L off inb _ 8 0 rfl _) $$ Hi
  iintro Hi
  iapply (merge_wp d L 0 _ _ _) $$ H1
  iintro H1
  iapply (merge_wp d L 0 _ _ _) $$ H2
  iintro H2
  iapply (merge_wp d L 16 _ _ _) $$ H1
  iintro H1
  iapply (merge_wp d L 16 _ _ _) $$ H2
  iintro H2
  iapply Hk
  isplitl [Hi]; · iexact Hi
  isplitl [H1]; · iexact H1
  iexact H2

end Wp

end Cert.Proof.Chunk

end
-- ==== Proof.Lanes.lean ====
/-
  The chunk's computation, lane by lane: feature `l` of the thirty-two, under one of the two masks, is a running
  maximum over the chunk's tokens, and a merge takes the maximum with what the result held.
-/
module

public import proofs.«01_k».proof.Proof.ChunkWp
public import Idealize.ShloMosaic.Lib.ValueIdxCore
public import Idealize.ShloMosaic.Lib.Pipeline.Value

@[expose] public section

noncomputable section

namespace Cert.Proof.Chunk

open Cert.KernelIdeal Cert.KernelIdeal.Gen
open Idealize.ShloMosaic
open Idealize.ShloMosaic.ValueIdx

variable {F : FTy → Type} [FloatOps F]

/-- Minus infinity. -/
def nInf : F .f32 := Scalar.ofBits .f32 0xFF800000#32

/-- A mask word as a bias. -/
def biasW (w : BitVec 32) : F .f32 :=
  Scalar.select (IntOp.cmpi .sgt w 0#32) (Scalar.ofBits .f32 0x00000000#32) (Scalar.ofBits .f32 0xFF800000#32)

/-- `g t, …, g (t + n - 1)` applied in turn. -/
def runFrom {β : Type} (g : ℕ → β → β) : (n t : ℕ) → β → β
  | 0, _, a => a
  | n + 1, t, a => runFrom g n (t + 1) (g t a)

theorem runFrom_add {β : Type} (g : ℕ → β → β) : ∀ (n k t : ℕ) (a : β), runFrom g (n + k) t a = runFrom g k (t + n) (runFrom g n t a)
  | 0, k, t, a => by rw [Nat.zero_add]; rfl
  | n + 1, k, t, a => by
    rw [show n + 1 + k = (n + k) + 1 by omega]
    show runFrom g (n + k) (t + 1) (g t a) = _
    rw [runFrom_add g n k (t + 1) (g t a), show t + 1 + n = t + (n + 1) by omega]
    rfl

section Col

variable (X : S4x2048x768.Idx → F .f32) (M : S2048.Idx → BitVec 32) (b : Fin 4) (f : Fin 768)

/-- One token's step of a feature's running maximum. -/
def step (t : ℕ) (a : F .f32) : F .f32 :=
  FloatOps.maximumf a (FloatOps.addf (X (ix3 b (Fin.ofNat 2048 t) f)) (biasW (M (ix1 (Fin.ofNat 2048 t)))))

/-- A feature's maximum over chunk `c`. -/
def chunkMax (c : ℕ) : F .f32 := runFrom (step X M b f) 128 (128 * c) nInf

/-- A feature's maximum over the first `c` chunks. -/
def resMax : ℕ → F .f32
  | 0 => nInf
  | c + 1 => FloatOps.maximumf (resMax c) (chunkMax X M b f c)

end Col

/-- Feature `l` of a subcore's thirty-two, the first of which is `f₀`. -/
def feat (f₀ : ℕ) (l : Fin 32) : Fin 768 := Fin.ofNat 768 (f₀ + l.val)

/-- A result after `c` chunks. -/
def resV (X : S4x2048x768.Idx → F .f32) (M : S2048.Idx → BitVec 32) (b : Fin 4) (f₀ c : ℕ) : S32.Idx → F .f32 :=
  fun l => resMax X M b (feat f₀ (l 0)) c

/-! ## The four maxima as two rows of thirty-two -/

def Acc.at1 (a : Acc F) (l : Fin 32) : F .f32 := if h : l.val < 16 then a.lo1 (ix1 ⟨l.val, h⟩) else a.hi1 (ix1 ⟨l.val - 16, by omega⟩)
def Acc.at2 (a : Acc F) (l : Fin 32) : F .f32 := if h : l.val < 16 then a.lo2 (ix1 ⟨l.val, h⟩) else a.hi2 (ix1 ⟨l.val - 16, by omega⟩)

theorem upd_at (a : FVec F S16 .f32) (X : S128x32.Idx → F .f32) (t c : ℕ) (h : t < 128) (hc : c ≤ 16) (s : F .f32) (j : Fin 16) :
    upd a (rowV X t c h hc) s (ix1 j) = FloatOps.maximumf (a (ix1 j)) (FloatOps.addf (X (ix2 ⟨t, h⟩ ⟨c + j.val, by omega⟩)) s) := by
  show FloatOps.maximumf (a (ix1 j)) (FloatOps.addf (shapeCast S16 (rowV X t c h hc) shapeCasts_S1x16_S16 (ix1 j)) s) = _
  congr 2
  refine (shapeCast_dropUnit_apply ![16] (rowV X t c h hc) shapeCasts_S1x16_S16 (ix1 j)).trans ?_
  unfold rowV
  congr 1
  funext ax
  apply Fin.ext
  match ax with
  | ⟨0, _⟩ => rfl
  | ⟨1, _⟩ => show c + 1 * j.val = c + j.val; omega

theorem tokV_at1 (X : S128x32.Idx → F .f32) (t : ℕ) (h : t < 128) (s₁ s₂ : F .f32) (a : Acc F) (l : Fin 32) :
    (tokV X t h s₁ s₂ a).at1 l = FloatOps.maximumf (a.at1 l) (FloatOps.addf (X (ix2 ⟨t, h⟩ l)) s₁) := by
  unfold Acc.at1 tokV
  by_cases hl : l.val < 16
  · rw [dif_pos hl, dif_pos hl]
    refine (upd_at a.lo1 X t 0 h _ s₁ ⟨l.val, hl⟩).trans ?_
    congr 3; funext ax; apply Fin.ext
    match ax with
    | ⟨0, _⟩ => rfl
    | ⟨1, _⟩ => show 0 + l.val = l.val; omega
  · rw [dif_neg hl, dif_neg hl]
    refine (upd_at a.hi1 X t 16 h _ s₁ ⟨l.val - 16, by omega⟩).trans ?_
    congr 3; funext ax; apply Fin.ext
    match ax with
    | ⟨0, _⟩ => rfl
    | ⟨1, _⟩ => show 16 + (l.val - 16) = l.val; omega

theorem tokV_at2 (X : S128x32.Idx → F .f32) (t : ℕ) (h : t < 128) (s₁ s₂ : F .f32) (a : Acc F) (l : Fin 32) :
    (tokV X t h s₁ s₂ a).at2 l = FloatOps.maximumf (a.at2 l) (FloatOps.addf (X (ix2 ⟨t, h⟩ l)) s₂) := by
  have h1 := tokV_at1 X t h s₂ s₁ ⟨a.lo2, a.lo1, a.hi2, a.hi1⟩ l
  exact h1

/-! ## A chunk of the input -/

section OfChunk

variable {X : S4x2048x768.Idx → F .f32} {M₁ M₂ : S2048.Idx → BitVec 32} {b : Fin 4} {f₀ c : ℕ} {Y : S128x32.Idx → F .f32}
  (hY : ∀ (t : Fin 128) (l : Fin 32), Y (ix2 t l) = X (ix3 b (Fin.ofNat 2048 (128 * c + t.val)) (feat f₀ l)))
  {off : BitVec 32 → Fin 1 → Nat} {inb : ∀ r : Fin 8, ∀ a, (off (BitVec.ofNat 32 (16 * r.val))) a + S16.size a ≤ S2048.size a}
  (hoff : ∀ r : Fin 8, off (BitVec.ofNat 32 (16 * r.val)) = ![128 * c + 16 * r.val])

theorem biasAt_words (hoff : ∀ r : Fin 8, off (BitVec.ofNat 32 (16 * r.val)) = ![128 * c + 16 * r.val]) (M : S2048.Idx → BitVec 32)
    (g : ℕ) (hg : g < 8) (k : ℕ) (hk : k < 16) :
    biasAt (bias (wordsV (F := F) off inb M g hg)) k hk = biasW (M (ix1 (Fin.ofNat 2048 (128 * c + (16 * g + k))))) := by
  have hi : (off (BitVec.ofNat 32 (16 * g))) 0 + 16 ≤ 2048 := inb ⟨g, hg⟩ 0
  have ho : (off (BitVec.ofNat 32 (16 * g))) 0 = 128 * c + 16 * g := congrFun (hoff ⟨g, hg⟩) 0
  show Scalar.select (IntOp.cmpi .sgt (shapeCast S16 (wordsV (F := F) off inb M g hg) shapeCasts_S16_S16 _) 0#32) _ _ = _
  rw [shapeCast_self]
  refine congrArg (fun w => (biasW w : F .f32)) (congrArg M ?_)
  funext ax
  apply Fin.ext
  match ax with
  | ⟨0, _⟩ =>
    show (off (BitVec.ofNat 32 (16 * g))) 0 + 1 * (k + 0) = (128 * c + (16 * g + k)) % 2048
    rw [ho] at hi ⊢
    rw [Nat.mod_eq_of_lt (by omega)]; omega

include hY in
theorem toksV_at (g : ℕ) (hg : g < 8) (b₁ b₂ : FVec F S16 .f32)
    (h₁ : ∀ k hk, biasAt b₁ k hk = biasW (M₁ (ix1 (Fin.ofNat 2048 (128 * c + (16 * g + k))))))
    (h₂ : ∀ k hk, biasAt b₂ k hk = biasW (M₂ (ix1 (Fin.ofNat 2048 (128 * c + (16 * g + k)))))) (l : Fin 32) :
    ∀ (n k : ℕ) (h : k + n = 16) (a : Acc F),
      (toksV Y g hg b₁ b₂ n k h a).at1 l = runFrom (step X M₁ b (feat f₀ l)) n (128 * c + (16 * g + k)) (a.at1 l)
      ∧ (toksV Y g hg b₁ b₂ n k h a).at2 l = runFrom (step X M₂ b (feat f₀ l)) n (128 * c + (16 * g + k)) (a.at2 l)
  | 0, _, _, a => ⟨rfl, rfl⟩
  | n + 1, k, h, a => by
    have ih := toksV_at g hg b₁ b₂ h₁ h₂ l n (k + 1) (by omega)
      (tokV Y (16 * g + k) (by omega) (biasAt b₁ k (by omega)) (biasAt b₂ k (by omega)) a)
    rw [tokV_at1, tokV_at2] at ih
    refine ⟨ih.1.trans ?_, ih.2.trans ?_⟩
    · rw [hY, h₁]; rfl
    · rw [hY, h₂]; rfl

include hY hoff

theorem groupsV_at (l : Fin 32) : ∀ (n g : ℕ) (h : g + n = 8) (a : Acc F),
      (groupsV Y M₁ M₂ off inb n g h a).at1 l = runFrom (step X M₁ b (feat f₀ l)) (16 * n) (128 * c + 16 * g) (a.at1 l)
      ∧ (groupsV Y M₁ M₂ off inb n g h a).at2 l = runFrom (step X M₂ b (feat f₀ l)) (16 * n) (128 * c + 16 * g) (a.at2 l)
  | 0, _, _, a => ⟨rfl, rfl⟩
  | n + 1, g, h, a => by
    have ih := groupsV_at l n (g + 1) (by omega)
      (toksV Y g (by omega) (bias (wordsV off inb M₁ g (by omega))) (bias (wordsV off inb M₂ g (by omega))) 16 0 rfl a)
    have ht := toksV_at hY g (by omega) (bias (wordsV (F := F) off inb M₁ g (by omega))) (bias (wordsV (F := F) off inb M₂ g (by omega)))
      (fun k hk => biasAt_words hoff M₁ g (by omega) k hk) (fun k hk => biasAt_words hoff M₂ g (by omega) k hk) l 16 0 rfl a
    rw [ht.1, ht.2] at ih
    rw [show 16 * (n + 1) = 16 + 16 * n by omega, runFrom_add, runFrom_add, show 128 * c + 16 * g + 16 = 128 * c + 16 * (g + 1) by omega]
    exact ih

/-- A chunk's maxima. -/
theorem chunkV_at (l : Fin 32) :
    (chunkV Y M₁ M₂ off inb).at1 l = chunkMax X M₁ b (feat f₀ l) c ∧ (chunkV Y M₁ M₂ off inb).at2 l = chunkMax X M₂ b (feat f₀ l) c := by
  have h := groupsV_at hY hoff (inb := inb) (M₁ := M₁) (M₂ := M₂) l 8 0 rfl ⟨negInf, negInf, negInf, negInf⟩
  have h1 : (⟨negInf, negInf, negInf, negInf⟩ : Acc F).at1 l = nInf := by unfold Acc.at1; split <;> rfl
  have h2 : (⟨negInf, negInf, negInf, negInf⟩ : Acc F).at2 l = nInf := by unfold Acc.at2; split <;> rfl
  rw [h1, h2] at h
  exact h

end OfChunk

/-! ## The merges -/

theorem half_lo (l : Fin 32) (h : l.val < 16) :
    (Rect.unit (s := S32) ![0] S16.size (inb_half 0 (by decide))).emb (ix1 ⟨l.val, h⟩) = ix1 l := by
  funext ax; apply Fin.ext
  match ax with
  | ⟨0, _⟩ => show 0 + 1 * l.val = l.val; omega

theorem half_hi (l : Fin 32) (h : ¬ l.val < 16) :
    (Rect.unit (s := S32) ![16] S16.size (inb_half 16 (by decide))).emb (ix1 ⟨l.val - 16, by omega⟩) = ix1 l := by
  funext ax; apply Fin.ext
  match ax with
  | ⟨0, _⟩ => show 16 + 1 * (l.val - 16) = l.val; omega

theorem lo_not_mem (l : Fin 32) (h : l.val < 16) : (ix1 l : S32.Idx) ∉ (Rect.unit (s := S32) ![16] S16.size (inb_half 16 (by decide))).set := by
  intro hm
  have h2 : 16 ≤ l.val := (Rect.mem_set_unit.mp hm 0).1
  omega

theorem hi_not_mem (l : Fin 32) (h : ¬ l.val < 16) : (ix1 l : S32.Idx) ∉ (Rect.unit (s := S32) ![0] S16.size (inb_half 0 (by decide))).set := by
  intro hm
  have h2 : l.val < 0 + 16 := (Rect.mem_set_unit.mp hm 0).2
  omega

/-- Two halves written: each lane is its half's. -/
theorem overlay_halves (R : S32.Idx → F .f32) (w : (S32.Idx → F .f32) → S16.Idx → F .f32) (w' : (S32.Idx → F .f32) → S16.Idx → F .f32) (l : Fin 32) :
    (Rect.unit (s := S32) ![16] S16.size (inb_half 16 (by decide))).overlay
        ((Rect.unit (s := S32) ![0] S16.size (inb_half 0 (by decide))).overlay R (w R))
        (w' ((Rect.unit (s := S32) ![0] S16.size (inb_half 0 (by decide))).overlay R (w R))) (ix1 l)
      = if h : l.val < 16 then w R (ix1 ⟨l.val, h⟩)
        else w' ((Rect.unit (s := S32) ![0] S16.size (inb_half 0 (by decide))).overlay R (w R)) (ix1 ⟨l.val - 16, by omega⟩) := by
  by_cases h : l.val < 16
  · rw [dif_pos h, Rect.overlay_of_not_mem _ _ _ (lo_not_mem l h), ← half_lo l h, Rect.overlay_emb]
  · rw [dif_neg h, ← half_hi l h, Rect.overlay_emb]

theorem merge_at (R : S32.Idx → F .f32) (lo hi : FVec F S16 .f32) (l : Fin 32) :
    mergeV (mergeV R 0 (by decide) lo) 16 (by decide) hi (ix1 l)
      = FloatOps.maximumf (R (ix1 l)) (if h : l.val < 16 then lo (ix1 ⟨l.val, h⟩) else hi (ix1 ⟨l.val - 16, by omega⟩)) := by
  unfold mergeV
  simp only [shapeCast_self]
  refine (overlay_halves R (fun R => maximumf (fun j => R ((Rect.unit (s := S32) ![0] S16.size (inb_half 0 (by decide))).emb j)) lo)
    (fun R => maximumf (fun j => R ((Rect.unit (s := S32) ![16] S16.size (inb_half 16 (by decide))).emb j)) hi) l).trans ?_
  by_cases h : l.val < 16
  · rw [dif_pos h, dif_pos h]
    show FloatOps.maximumf (R _) _ = _
    rw [half_lo l h]
  · rw [dif_neg h, dif_neg h]
    show FloatOps.maximumf (Rect.overlay _ R _ _) _ = _
    rw [half_hi l h, Rect.overlay_of_not_mem _ _ _ (hi_not_mem l h)]

theorem clear_at (R : S32.Idx → F .f32) : clearV (clearV R 0 (by decide)) 16 (by decide) = fun _ => nInf := by
  funext l
  rw [eq_ix1 l]
  unfold clearV
  simp only [shapeCast_self]
  refine (overlay_halves R (fun _ => negInf) (fun _ => negInf) (l 0)).trans ?_
  split <;> rfl

section Res

variable {X : S4x2048x768.Idx → F .f32} {M₁ M₂ : S2048.Idx → BitVec 32} {b : Fin 4} {f₀ c : ℕ} {Y : S128x32.Idx → F .f32}
  (hY : ∀ (t : Fin 128) (l : Fin 32), Y (ix2 t l) = X (ix3 b (Fin.ofNat 2048 (128 * c + t.val)) (feat f₀ l)))
  {off : BitVec 32 → Fin 1 → Nat} {inb : ∀ r : Fin 8, ∀ a, (off (BitVec.ofNat 32 (16 * r.val))) a + S16.size a ≤ S2048.size a}
  (hoff : ∀ r : Fin 8, off (BitVec.ofNat 32 (16 * r.val)) = ![128 * c + 16 * r.val])

theorem resV_zero (R : S32.Idx → F .f32) (M : S2048.Idx → BitVec 32) : clearV (clearV R 0 (by decide)) 16 (by decide) = resV X M b f₀ 0 :=
  clear_at R

include hY hoff

theorem resV_succ₁ : mergeV (mergeV (resV X M₁ b f₀ c) 0 (by decide) (chunkV Y M₁ M₂ off inb).lo1) 16 (by decide) (chunkV Y M₁ M₂ off inb).hi1
    = resV X M₁ b f₀ (c + 1) := by
  funext l
  refine (congrArg _ (eq_ix1 l)).trans ((merge_at _ _ _ (l 0)).trans ?_)
  exact congrArg (FloatOps.maximumf _) (chunkV_at hY hoff (l 0)).1

theorem resV_succ₂ : mergeV (mergeV (resV X M₂ b f₀ c) 0 (by decide) (chunkV Y M₁ M₂ off inb).lo2) 16 (by decide) (chunkV Y M₁ M₂ off inb).hi2
    = resV X M₂ b f₀ (c + 1) := by
  funext l
  refine (congrArg _ (eq_ix1 l)).trans ((merge_at _ _ _ (l 0)).trans ?_)
  exact congrArg (FloatOps.maximumf _) (chunkV_at hY hoff (l 0)).2

end Res

end Cert.Proof.Chunk

end
-- ==== Proof.Offsets.lean ====
/-
  Where a subcore's windows lie: subcore `w = 2 · tile + SparseCore` works on batch `w / 8`, on the thirty-two features
  from `512 + 32 · (w % 8)`; chunk `c` is the tokens from `128 · c`.
-/
module

public import proofs.«01_k».proof.Proof.Lanes

@[expose] public section

noncomputable section

namespace Cert.Proof.Chunk

open Cert.KernelIdeal Cert.KernelIdeal.Gen
open Idealize.ShloMosaic
open Idealize.ShloMosaic.ValueIdx

/-- The subcore's number among the thirty-two. -/
def wid (i : grid0.Coords) : ℕ := (i 1).val * 2 + (i 0).val
/-- Its batch. -/
def bOf (i : grid0.Coords) : Fin 4 := Fin.ofNat 4 (wid i / 8)
/-- Its first feature. -/
def fOf (i : grid0.Coords) : ℕ := 512 + 32 * (wid i % 8)

/-- The offsets of a chunk's window. -/
def winAt (i : grid0.Coords) (c : ℕ) : Fin 3 → ℕ := ![(bOf i).val, 128 * c, fOf i]

theorem off1_eq (i : grid0.Coords) : k0_off1 i = ![(bOf i).val, 0] := by decide +kernel +revert
theorem off2_eq (i : grid0.Coords) : k0_off2 i = winAt i 0 := by decide +kernel +revert
theorem off3_eq (i : grid0.Coords) : k0_off3 i = winAt i 1 := by decide +kernel +revert
theorem off6_eq₀ (i : grid0.Coords) (t : Fin k0_t1_loop.trips) : k0_off6 i t 2#32 14#32 = winAt i (min (2 * t.val + 2) 14) := by decide +kernel +revert
theorem off6_eq₁ (i : grid0.Coords) (t : Fin k0_t1_loop.trips) : k0_off6 i t 3#32 15#32 = winAt i (min (2 * t.val + 3) 15) := by decide +kernel +revert
theorem off8_eq (i : grid0.Coords) : k0_off8 i = ![(bOf i).val, 32 * (wid i % 8)] := by decide +kernel +revert
theorem fOf_le (i : grid0.Coords) : fOf i + 32 ≤ 768 := by unfold fOf; omega

end Cert.Proof.Chunk

end
-- ==== Proof.Tile.lean ====
/-
  One subcore's task run: the masks' rows in, the chunks double-buffered through the loop, the two results out — at the
  contents that the thirty-two features' maxima come to.
-/
module

public import proofs.«01_k».proof.Proof.Offsets

@[expose] public section

noncomputable section

namespace Cert.Proof.Chunk

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Own (Has Src FlyU Fly)

variable {F : FTy → Type} [FloatOps F]

local notation "𝕄" => MT nD τ sig (HIx 1) (Elt F) ℕ UU ℕ

/-- The transfers' counters. -/
abbrev EC : UEmb Counters (MT nD τ sig (HIx 1) (Elt F) ℕ UU ℕ) := countersEmb

/-! ## What the windows read -/

/-- A chunk's window reads the chunk. -/
theorem read_win {arg2 : Memref sig .scVector .hbm S4x2048x768 .f32} {i : grid0.Coords} {c : ℕ} (hc : c < 16) {o : Fin 3 → ℕ} (ho : o = winAt i c)
    (h : ∀ a, o a + S1x128x32.size a ≤ S4x2048x768.size a) (f : arg2.view.ty.Contents (Elt F)) (t : Fin 128) (l : Fin 32) :
    (winOf arg2 o h).view.read (Elt F) f (ix2 t l) = arg2.view.read (Elt F) f (ix3 (bOf i) (Fin.ofNat 2048 (128 * c + t.val)) (feat (fOf i) l)) := by
  subst ho
  refine (congrFun (Memref.read_squeeze_slice (Val := Elt F) arg2 (Rect.unit (s := S4x2048x768) (winAt i c) S1x128x32.size h) (fun _ => rfl)
    squeezes_S1x128x32_S128x32 (show S1x128x32.ShapeCasts S128x32 by decide) f) (ix2 t l)).trans ?_
  refine (shapeCast_dropUnit_apply ![128, 32] _ _ (ix2 t l)).trans ?_
  refine congrArg (arg2.view.read (Elt F) f) ?_
  have hf := fOf_le i
  funext a; apply Fin.ext
  match a with
  | ⟨0, _⟩ => show (bOf i).val + 1 * 0 = (bOf i).val; omega
  | ⟨1, _⟩ => show 128 * c + 1 * t.val = (128 * c + t.val) % 2048; rw [Nat.mod_eq_of_lt (by omega)]; omega
  | ⟨2, _⟩ => show fOf i + 1 * l.val = (fOf i + l.val) % 768; rw [Nat.mod_eq_of_lt (by omega)]; omega

/-- A mask's row. -/
def rowM (M : S4x2048.Idx → BitVec 32) (b : Fin 4) : S2048.Idx → BitVec 32 := fun t => M (ix2 b (t 0))

theorem read_row {arg : Memref sig .scVector .hbm S4x2048 .i32} {i : grid0.Coords} (f : arg.view.ty.Contents (Elt F)) :
    (rowOf i arg).view.read (Elt F) f = rowM (arg.view.read (Elt F) f) (bOf i) := by
  funext j
  refine (congrFun (Memref.read_squeeze_slice (Val := Elt F) arg (Rect.unit (s := S4x2048) (k0_off1 i) S1x2048.size (k0_off1_inb i)) (fun _ => rfl)
    squeezes_S1x2048_S2048 (show S1x2048.ShapeCasts S2048 by decide) f) j).trans ?_
  refine (shapeCast_dropUnit_apply ![2048] _ _ j).trans ?_
  refine congrArg (arg.view.read (Elt F) f) ?_
  have ho := off1_eq i
  funext a; apply Fin.ext
  match a with
  | ⟨0, _⟩ => show k0_off1 i 0 + 1 * 0 = (bOf i).val; rw [ho]; rfl
  | ⟨1, _⟩ => show k0_off1 i 1 + 1 * (j 0).val = (j 0).val; rw [ho]; show 0 + 1 * (j 0).val = (j 0).val; omega

theorem off5_at (t : Fin k0_t1_loop.trips) (r : Fin 8) : k0_off5 t (BitVec.ofNat 32 (16 * r.val)) = ![128 * (2 * t.val) + 16 * r.val] := by
  rw [k0_off5_eq t r]; congr 1; omega
theorem off7_at (t : Fin k0_t1_loop.trips) (r : Fin 8) : k0_off7 t (BitVec.ofNat 32 (16 * r.val)) = ![128 * (2 * t.val + 1) + 16 * r.val] := by
  rw [k0_off7_eq t r]; congr 1; omega

/-! ## The run -/

section Run

variable (d : Dev nD) (L : grid0.Coords)
  (arg2 : Memref sig .scVector .hbm S4x2048x768 .f32) (q : PosShare TreeShare) (fx : Buf (Elt F) (arg2.view.loc (VT d L)))

/-- What a buffer's credit counts. -/
abbrev bufN (x : Memref sig .scVector .vmem S128x32 .f32) : ℕ := x.view.dmaCredit

/-- Chunk `c` of the input in flight into a buffer. -/
def WinFly (x : Memref sig .scVector .vmem S128x32 .f32) (sm : DmaSem sig) (c : ℕ) : sProp 𝕄 :=
  iprop(∃ o h, ⌜o = winAt L c⌝ ∗ FlyU (VT d L) EC (winOf arg2 o h) q fx x (.dma sm) (default : HIx 1) (bufN x))

/-- A buffer holding chunk `c`. -/
def IsChunk (c : ℕ) (Y : S128x32.Idx → F .f32) : Prop :=
  ∀ (t : Fin 128) (l : Fin 32), Y (ix2 t l) = (arg2.view.read (Elt F) fx : S4x2048x768.Idx → F .f32) (ix3 (bOf L) (Fin.ofNat 2048 (128 * c + t.val)) (feat (fOf L) l))

variable {α : Type}

/-- A chunk asked for. -/
theorem win_dma {Q : α → sProp 𝕄} {x : Memref sig .scVector .vmem S128x32 .f32} {sm : DmaSem sig} {o : Fin 3 → ℕ} {h : ∀ a, o a + S1x128x32.size a ≤ S4x2048x768.size a}
    {c : ℕ} (ho : o = winAt L c) {Y : S128x32.Idx → F .f32} {hsrc : (winOf arg2 o h).view.WordExact} {hdst : x.view.WordExact}
    {hsem : DmaTarget.Typed (nD := nD) (τ := τ) (p := (VT d L).2) .hbm (.dma sm) (.here x)} {k : PUnit → TP F L α} :
    (iprop(Src (VT d L) arg2 q fx ∗ Has (Val := Elt F) (VT d L) x Y ∗ semVal (VT d L, .dma sm) 0) : sProp 𝕄)
      ⊢ iprop((WinFly d L arg2 q fx x sm c -∗ wpT d L (k ⟨⟩) Q)
          -∗ wpT d L (.op (.enqueueDma (winOf arg2 o h) (.here x) (.dma sm) hsrc hdst hsem) k) Q) := by
  iintro ⟨Hs, Hd, Hv⟩ Hk
  ihave Hs' := (show (Src (VT d L) arg2 q fx : sProp 𝕄) ⊢ Src (VT d L) (winOf arg2 o h) q fx from Entails.of_eq rfl) $$ Hs
  iapply (Own.dmaU (defs := defs₀ (F := F)) 𝒱₀ (VT d L) none EC (src := winOf arg2 o h) (fs := fx) (dst := x) (sm := .dma sm) (default : HIx 1) (bufN x) rfl
    (show 0 < x.view.amount (.dma sm) from View.amount_pos _ _ (show 0 < S128x32.numel by decide))) $$ [Hs' Hd Hv]
  · isplitl [Hs']; · iexact Hs'
    isplitl [Hd]; · iexact Hd
    iexact Hv
  iintro Hf
  iapply Hk
  unfold WinFly
  iexists o, h
  isplitr; · ipureintro; exact ho
  iexact Hf

/-- A chunk awaited. -/
theorem win_wait {Q : α → sProp 𝕄} {x : Memref sig .scVector .vmem S128x32 .f32} {sm : DmaSem sig} {c : ℕ} (hc : c < 16)
    {o : Fin 3 → ℕ} {h : ∀ a, o a + S1x128x32.size a ≤ S4x2048x768.size a} {hsrc : (winOf arg2 o h).view.WordExact} {hdst : x.view.WordExact}
    {O : CellTallies nD τ sig (HIx 1)} {k : PUnit → TP F L α} :
    (iprop(MayWaits (VT d L) (default : HIx 1) O ∗ WinFly d L arg2 q fx x sm c ∗ ∃ W, owes (VT d L) O W) : sProp 𝕄)
      ⊢ iprop((iprop((∃ Y, ⌜IsChunk d L arg2 fx c Y⌝ ∗ Has (Val := Elt F) (VT d L) x Y) ∗ Src (VT d L) arg2 q fx ∗ semVal (VT d L, .dma sm) 0 ∗ ∃ W, owes (VT d L) O W) -∗ wpT d L (k ⟨⟩) Q)
          -∗ wpT d L (.op (.waitDma2 sm (winOf arg2 o h) x hsrc hdst) k) Q) := by
  unfold WinFly
  iintro ⟨Hmw, ⟨%o', %h', %ho, Hf⟩, HO⟩ Hk
  iapply (Own.waitU (defs := defs₀ (F := F)) 𝒱₀ (VT d L) none EC (default : HIx 1) (N := bufN x) rfl) $$ [Hmw Hf HO]
  · isplitl [Hmw]; · iexact Hmw
    isplitl [Hf]; · iexact Hf
    iexact HO
  iintro ⟨Hd, Hs, Hv, HO⟩
  iapply Hk
  isplitl [Hd]
  · iexists _
    isplitr
    swap
    · iexact Hd
    ipureintro
    exact fun t l => read_win hc ho h' fx t l
  isplitl [Hs]; · iexact Hs
  isplitl [Hv]; · iexact Hv
  iexact HO

section Trip

variable (q' : PosShare TreeShare)
  (arg7 arg8 : Memref sig .scVector .vmem S128x32 .f32) (harg7 : arg7.IsWhole) (harg8 : arg8.IsWhole)
  (arg9 arg10 : Memref sig .scVector .vmem S2048 .i32) (arg11 arg12 : Memref sig .scVector .vmem S32 .f32) (arg13 arg14 : DmaSems sig S_)
  (M₁ M₂ : S2048.Idx → BitVec 32) (O : CellTallies nD τ sig (HIx 1))

/-- The result under a mask's row after `c` chunks. -/
abbrev resAt (M : S2048.Idx → BitVec 32) (c : ℕ) : S32.Idx → F .f32 :=
  resV (arg2.view.read (Elt F) fx) M (bOf L) (fOf L) c

/-- The loop's invariant: before trip `t` the first `2 t` chunks are in the results, the next two in flight. -/
def inv (t : ℕ) (_ : PUnit.{1}) : sProp 𝕄 :=
  iprop(MayWaits (VT d L) (default : HIx 1) O ∗ WinFly d L arg2 q fx arg7 arg13.sem (min (2 * t) 14) ∗ WinFly d L arg2 q' fx arg8 arg14.sem (min (2 * t + 1) 15)
    ∗ Has (Val := Elt F) (VT d L) arg9 M₁ ∗ Has (Val := Elt F) (VT d L) arg10 M₂
    ∗ Has (Val := Elt F) (VT d L) arg11 (resAt d L arg2 fx M₁ (2 * t)) ∗ Has (Val := Elt F) (VT d L) arg12 (resAt d L arg2 fx M₂ (2 * t))
    ∗ ∃ W, owes (VT d L) O W)

/-- One trip. -/
theorem trip_wp (t : Fin k0_t1_loop.trips) (a : PUnit.{1}) :
    inv d L arg2 q fx q' arg7 arg8 arg9 arg10 arg11 arg12 arg13 arg14 M₁ M₂ O t.val a
      ⊢ wpT d L (trip (F := F) L arg2 arg7 arg8 harg7 harg8 arg9 arg10 arg11 arg12 arg13 arg14 t)
          (inv d L arg2 q fx q' arg7 arg8 arg9 arg10 arg11 arg12 arg13 arg14 M₁ M₂ O (t.val + 1)) := by
  have ht : t.val < 8 := t.isLt
  unfold trip inv
  iintro ⟨#Hmw, H7, H8, H9, H10, H11, H12, HO⟩
  rw [show min (2 * t.val) 14 = 2 * t.val by omega, show min (2 * t.val + 1) 15 = 2 * t.val + 1 by omega]
  iapply (win_wait d L arg2 q fx (c := 2 * t.val) (by omega)) $$ [H7 HO]
  · isplitr; · iexact Hmw
    isplitl [H7]; · iexact H7
    iexact HO
  iintro ⟨⟨%Y, %hY, H7⟩, Hx, Hv, HO⟩
  iapply (chunk_wp d L (off := k0_off5 t) (inb := k0_off5_inb t) _) $$ [H7 H9 H10 H11 H12]
  · isplitl [H7 H9 H10]
    · isplitl [H7]; · iexact H7
      isplitl [H9]; · iexact H9
      iexact H10
    isplitl [H11]; · iexact H11
    iexact H12
  iintro ⟨⟨H7, H9, H10⟩, H11, H12⟩
  rw [resV_succ₁ hY (off5_at t), resV_succ₂ hY (off5_at t)]
  iapply (win_dma d L arg2 q fx (off6_eq₀ L t)) $$ [Hx H7 Hv]
  · isplitl [Hx]; · iexact Hx
    isplitl [H7]; · iexact H7
    iexact Hv
  iintro H7
  iapply (win_wait d L arg2 q' fx (c := 2 * t.val + 1) (by omega)) $$ [H8 HO]
  · isplitr; · iexact Hmw
    isplitl [H8]; · iexact H8
    iexact HO
  iintro ⟨⟨%Z, %hZ, H8⟩, Hx, Hv, HO⟩
  iapply (chunk_wp d L (off := k0_off7 t) (inb := k0_off7_inb t) _) $$ [H8 H9 H10 H11 H12]
  · isplitl [H8 H9 H10]
    · isplitl [H8]; · iexact H8
      isplitl [H9]; · iexact H9
      iexact H10
    isplitl [H11]; · iexact H11
    iexact H12
  iintro ⟨⟨H8, H9, H10⟩, H11, H12⟩
  rw [resV_succ₁ hZ (off7_at t), resV_succ₂ hZ (off7_at t)]
  iapply (win_dma d L arg2 q' fx (off6_eq₁ L t)) $$ [Hx H8 Hv]
  · isplitl [Hx]; · iexact Hx
    isplitl [H8]; · iexact H8
    iexact Hv
  iintro H8
  unfold wpT
  sl_step
  rw [show 2 * (t.val + 1) = 2 * t.val + 1 + 1 by omega, show 2 * t.val + 1 + 1 + 1 = 2 * t.val + 3 by omega]
  isplitr; · iexact Hmw
  isplitl [H7]; · iexact H7
  isplitl [H8]; · iexact H8
  isplitl [H9]; · iexact H9
  isplitl [H10]; · iexact H10
  isplitl [H11]; · iexact H11
  isplitl [H12]; · iexact H12
  iexact HO

end Trip

end Run

end Cert.Proof.Chunk

end
-- ==== Proof.Body.lean ====
/-
  The whole task of a subcore run: from read shares of the input and of the two masks, and the subcore's slices of the two
  results, to the results at their maxima.
-/
module

public import proofs.«01_k».proof.Proof.Tile

@[expose] public section

noncomputable section

namespace Cert.Proof.Chunk

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Own (Has Src FlyU Fly)

variable {F : FTy → Type} [FloatOps F]

local notation "𝕄" => MT nD τ sig (HIx 1) (Elt F) ℕ UU ℕ

section Run

variable (d : Dev nD) (L : grid0.Coords) {α : Type}

/-- A mask's row in. -/
theorem row_in {Q : α → sProp 𝕄} {arg : Memref sig .scVector .hbm S4x2048 .i32} {q : PosShare TreeShare} {f : Buf (Elt F) (arg.view.loc (VT d L))}
    {x : Memref sig .scVector .vmem S2048 .i32} {sm : DmaSem sig} {Y : S2048.Idx → BitVec 32} {O : CellTallies nD τ sig (HIx 1)}
    {hsrc : (rowOf L arg).view.WordExact} {hdst : x.view.WordExact}
    {hsem : DmaTarget.Typed (nD := nD) (τ := τ) (p := (VT d L).2) .hbm (.dma sm) (.here x)}
    {hsrc' : (rowOf L arg).view.WordExact} {hdst' : x.view.WordExact} {k : PUnit → TP F L α} :
    (iprop(MayWaits (VT d L) (default : HIx 1) O ∗ Src (VT d L) arg q f ∗ Has (Val := Elt F) (VT d L) x Y ∗ semVal (VT d L, .dma sm) 0 ∗ ∃ W, owes (VT d L) O W) : sProp 𝕄)
      ⊢ iprop((iprop(Has (Val := Elt F) (VT d L) x (rowM (arg.view.read (Elt F) f) (bOf L)) ∗ Src (VT d L) arg q f ∗ semVal (VT d L, .dma sm) 0 ∗ ∃ W, owes (VT d L) O W) -∗ wpT d L (k ⟨⟩) Q)
          -∗ wpT d L (.op (.enqueueDma (rowOf L arg) (.here x) (.dma sm) hsrc hdst hsem) fun _ => .op (.waitDma2 sm (rowOf L arg) x hsrc' hdst') k) Q) := by
  iintro ⟨Hmw, Hs, Hd, Hv, HO⟩ Hk
  ihave Hs' := (show (Src (VT d L) arg q f : sProp 𝕄) ⊢ Src (VT d L) (rowOf L arg) q f from Entails.of_eq rfl) $$ Hs
  iapply (Own.dmaU (defs := defs₀ (F := F)) 𝒱₀ (VT d L) none EC (src := rowOf L arg) (fs := f) (dst := x) (sm := .dma sm) (default : HIx 1) x.view.dmaCredit rfl
    (show 0 < x.view.amount (.dma sm) from View.amount_pos _ _ (show 0 < S2048.numel by decide))) $$ [Hs' Hd Hv]
  · isplitl [Hs']; · iexact Hs'
    isplitl [Hd]; · iexact Hd
    iexact Hv
  iintro Hf
  iapply (Own.waitU (defs := defs₀ (F := F)) 𝒱₀ (VT d L) none EC (default : HIx 1) (N := x.view.dmaCredit) rfl) $$ [Hmw Hf HO]
  · isplitl [Hmw]; · iexact Hmw
    isplitl [Hf]; · iexact Hf
    iexact HO
  rw [read_row]
  iintro ⟨Hd, Hs, Hv, HO⟩
  iapply Hk
  isplitl [Hd]; · iexact Hd
  isplitl [Hs]; · iexact Hs
  isplitl [Hv]; · iexact Hv
  iexact HO

/-- A result out. -/
theorem res_out {Q : α → sProp 𝕄} {arg : Memref sig .scVector .hbm S4x256 .f32}
    {x : Memref sig .scVector .vmem S32 .f32} {sm : DmaSem sig} {X : S32.Idx → F .f32} {O : CellTallies nD τ sig (HIx 1)}
    {hsrc : x.view.WordExact} {hdst : (outOf L arg).view.WordExact}
    {hsem : DmaTarget.Typed (nD := nD) (τ := τ) (p := (VT d L).2) .vmem (.dma sm) (.here (outOf L arg))}
    {hsrc' : x.view.WordExact} {hdst' : (outOf L arg).view.WordExact} {k : PUnit → TP F L α} :
    (iprop(MayWaits (VT d L) (default : HIx 1) O ∗ Has (Val := Elt F) (VT d L) x X ∗ (∃ Y, Has (Val := Elt F) (VT d L) (outOf L arg) Y) ∗ semVal (VT d L, .dma sm) 0 ∗ ∃ W, owes (VT d L) O W) : sProp 𝕄)
      ⊢ iprop((iprop(Has (Val := Elt F) (VT d L) (outOf L arg) X ∗ Has (Val := Elt F) (VT d L) x X ∗ semVal (VT d L, .dma sm) 0 ∗ ∃ W, owes (VT d L) O W) -∗ wpT d L (k ⟨⟩) Q)
          -∗ wpT d L (.op (.enqueueDma x (.here (outOf L arg)) (.dma sm) hsrc hdst hsem) fun _ => .op (.waitDma2 sm x (outOf L arg) hsrc' hdst') k) Q) := by
  iintro ⟨Hmw, Hs, ⟨%Y, Hd⟩, Hv, HO⟩ Hk
  ihave Hs' := (show (Has (Val := Elt F) (VT d L) x X : sProp 𝕄) ⊢ iprop(∃ f, ⌜x.view.read (Elt F) f = X⌝ ∗ (x.view.loc (VT d L) ↦[x.view.set]{fullShare} f)) from Entails.of_eq rfl) $$ Hs
  icases Hs' with ⟨%f, %hf, Hs⟩
  subst hf
  iapply (Own.dma (defs := defs₀ (F := F)) 𝒱₀ (VT d L) none EC (src := x) (fs := f) (dst := outOf L arg) (sm := .dma sm) (default : HIx 1) (outOf L arg).view.dmaCredit rfl
    (show 0 < (outOf L arg).view.amount (.dma sm) from View.amount_pos _ _ (show 0 < S32.numel by decide))) $$ [Hs Hd Hv]
  · isplitl [Hs]; · iexact Hs
    isplitl [Hd]; · iexact Hd
    iexact Hv
  iintro Hf
  iapply (Own.wait (defs := defs₀ (F := F)) 𝒱₀ (VT d L) none EC (default : HIx 1) (N := (outOf L arg).view.dmaCredit) rfl) $$ [Hmw Hf HO]
  · isplitl [Hmw]; · iexact Hmw
    isplitl [Hf]; · iexact Hf
    iexact HO
  iintro ⟨⟨Hd, Hs⟩, Hv, HO⟩
  iapply Hk
  isplitl [Hd]; · iexact Hd
  isplitl [Hs]; · iapply (Has.intro (VT d L) x f); iexact Hs
  isplitl [Hv]; · iexact Hv
  iexact HO

variable (arg2 : Memref sig .scVector .hbm S4x2048x768 .f32) (harg2 : arg2.IsWhole) (arg3 : Memref sig .scVector .hbm S4x2048 .i32) (harg3 : arg3.IsWhole)
    (arg4 : Memref sig .scVector .hbm S4x2048 .i32) (harg4 : arg4.IsWhole) (arg5 : Memref sig .scVector .hbm S4x256 .f32) (harg5 : arg5.IsWhole)
    (arg6 : Memref sig .scVector .hbm S4x256 .f32) (harg6 : arg6.IsWhole) (arg7 : Memref sig .scVector .vmem S128x32 .f32) (harg7 : arg7.IsWhole)
    (arg8 : Memref sig .scVector .vmem S128x32 .f32) (harg8 : arg8.IsWhole) (arg9 : Memref sig .scVector .vmem S2048 .i32) (harg9 : arg9.IsWhole)
    (arg10 : Memref sig .scVector .vmem S2048 .i32) (harg10 : arg10.IsWhole) (arg11 : Memref sig .scVector .vmem S32 .f32) (harg11 : arg11.IsWhole)
    (arg12 : Memref sig .scVector .vmem S32 .f32) (harg12 : arg12.IsWhole) (arg13 arg14 : DmaSems sig S_) (r0 r1 r2 r3 : DmaSems sig S_)
  (O : CellTallies nD τ sig (HIx 1)) (q q' q₁ q₂ : PosShare TreeShare)
  (fx : Buf (Elt F) (arg2.view.loc (VT d L))) (f₁ : Buf (Elt F) (arg3.view.loc (VT d L))) (f₂ : Buf (Elt F) (arg4.view.loc (VT d L)))

set_option maxRecDepth 1000000 in
theorem loop_wp {Q : α → sProp 𝕄} {M₁ M₂ : S2048.Idx → BitVec 32} {k : TP F L α} :
    inv d L arg2 q fx q' arg7 arg8 arg9 arg10 arg11 arg12 arg13 arg14 M₁ M₂ O 0 ⟨⟩
      ⊢ iprop((inv d L arg2 q fx q' arg7 arg8 arg9 arg10 arg11 arg12 arg13 arg14 M₁ M₂ O 8 ⟨⟩ -∗ wpT d L k Q)
          -∗ wpT d L (((Scf.Loop.for k0_t1_loop k0_t1_ok (⟨⟩ : PUnit.{1}) fun k0_t1 _ =>
              trip (F := F) L arg2 arg7 arg8 harg7 harg8 arg9 arg10 arg11 arg12 arg13 arg14 k0_t1) >>= fun _ => .ret (⟨⟩ : PUnit.{1})) >>= fun _ => k) Q) := by
  unfold wpT
  rw [wp_bind, wp_bind]
  iintro HI Hk
  sl_for (inv d L arg2 q fx q' arg7 arg8 arg9 arg10 arg11 arg12 arg13 arg14 M₁ M₂ O) $$ [HI Hk]
  case region =>
    intro t a
    have h := trip_wp (F := F) d L arg2 q fx q' arg7 arg8 harg7 harg8 arg9 arg10 arg11 arg12 arg13 arg14 M₁ M₂ O t a
    unfold wpT at h
    unfold loop_wp.sl.prog.body_1
    exact h
  isplitl [HI]; · iexact HI
  iintro %a HI
  sl_step
  iapply Hk
  iexact HI

/-- What a task has of the subcore's own and of the arrays it reads, at any contents of its buffers. -/
def Held : sProp 𝕄 :=
  iprop(Src (VT d L) arg2 q fx ∗ Src (VT d L) arg2 q' fx ∗ Src (VT d L) arg3 q₁ f₁ ∗ Src (VT d L) arg4 q₂ f₂
    ∗ (∃ Y, Has (Val := Elt F) (VT d L) arg7 Y) ∗ (∃ Y, Has (Val := Elt F) (VT d L) arg8 Y) ∗ (∃ Y, Has (Val := Elt F) (VT d L) arg9 Y)
    ∗ (∃ Y, Has (Val := Elt F) (VT d L) arg10 Y) ∗ (∃ Y, Has (Val := Elt F) (VT d L) arg11 Y) ∗ (∃ Y, Has (Val := Elt F) (VT d L) arg12 Y)
    ∗ semVal (VT d L, .dma arg13.sem) 0 ∗ semVal (VT d L, .dma arg14.sem) 0 ∗ semVal (VT d L, .dma r0.sem) 0 ∗ semVal (VT d L, .dma r1.sem) 0
    ∗ semVal (VT d L, .dma r2.sem) 0 ∗ semVal (VT d L, .dma r3.sem) 0 ∗ ∃ W, owes (VT d L) O W)

/-- The task. -/
theorem body_wp :
    (iprop(MayWaits (VT d L) (default : HIx 1) O
        ∗ Held d L arg2 arg3 arg4 arg7 arg8 arg9 arg10 arg11 arg12 arg13 arg14 r0 r1 r2 r3 O q q' q₁ q₂ fx f₁ f₂
        ∗ (∃ Y, Has (Val := Elt F) (VT d L) (outOf L arg5) Y) ∗ ∃ Y, Has (Val := Elt F) (VT d L) (outOf L arg6) Y) : sProp 𝕄)
      ⊢ wpT d L (cc0__sc_body (F := F) L arg2 harg2 arg3 harg3 arg4 harg4 arg5 harg5 arg6 harg6 arg7 harg7 arg8 harg8 arg9 harg9 arg10 harg10 arg11 harg11 arg12 harg12 arg13 arg14 r0 r1 r2 r3)
        fun _ => iprop(Held d L arg2 arg3 arg4 arg7 arg8 arg9 arg10 arg11 arg12 arg13 arg14 r0 r1 r2 r3 O q q' q₁ q₂ fx f₁ f₂
          ∗ Has (Val := Elt F) (VT d L) (outOf L arg5) (resAt d L arg2 fx (rowM (arg3.view.read (Elt F) f₁) (bOf L)) 16)
          ∗ Has (Val := Elt F) (VT d L) (outOf L arg6) (resAt d L arg2 fx (rowM (arg4.view.read (Elt F) f₂) (bOf L)) 16)) := by
  rw [body_eq]
  unfold body Held
  iintro ⟨#Hmw, ⟨Hx, Hx', Hm1, Hm2, H7, H8, ⟨%Y9, H9⟩, ⟨%Y10, H10⟩, ⟨%Y11, H11⟩, ⟨%Y12, H12⟩, Hs13, Hs14, Hr0, Hr1, Hr2, Hr3, HO⟩, H5, H6⟩
  iapply (row_in d L) $$ [Hm1 H9 Hr0 HO]
  · isplitr; · iexact Hmw
    isplitl [Hm1]; · iexact Hm1
    isplitl [H9]; · iexact H9
    isplitl [Hr0]; · iexact Hr0
    iexact HO
  iintro ⟨H9, Hm1, Hr0, HO⟩
  iapply (row_in d L) $$ [Hm2 H10 Hr1 HO]
  · isplitr; · iexact Hmw
    isplitl [Hm2]; · iexact Hm2
    isplitl [H10]; · iexact H10
    isplitl [Hr1]; · iexact Hr1
    iexact HO
  iintro ⟨H10, Hm2, Hr1, HO⟩
  icases H7 with ⟨%Y7, H7⟩
  icases H8 with ⟨%Y8, H8⟩
  iapply (win_dma d L arg2 q fx (off2_eq L)) $$ [Hx H7 Hs13]
  · isplitl [Hx]; · iexact Hx
    isplitl [H7]; · iexact H7
    iexact Hs13
  iintro H7
  iapply (win_dma d L arg2 q' fx (off3_eq L)) $$ [Hx' H8 Hs14]
  · isplitl [Hx']; · iexact Hx'
    isplitl [H8]; · iexact H8
    iexact Hs14
  iintro H8
  iapply (clear_wp d L 0 _ _) $$ H11
  iintro H11
  iapply (clear_wp d L 0 _ _) $$ H12
  iintro H12
  iapply (clear_wp d L 16 _ _) $$ H11
  iintro H11
  iapply (clear_wp d L 16 _ _) $$ H12
  iintro H12
  rw [resV_zero (X := arg2.view.read (Elt F) fx) (b := bOf L) (f₀ := fOf L) Y11 (rowM (arg3.view.read (Elt F) f₁) (bOf L)),
    resV_zero (X := arg2.view.read (Elt F) fx) (b := bOf L) (f₀ := fOf L) Y12 (rowM (arg4.view.read (Elt F) f₂) (bOf L))]
  iapply (loop_wp d L arg2 arg7 harg7 arg8 harg8 arg9 arg10 arg11 arg12 arg13 arg14 O q q' fx
    (M₁ := rowM (arg3.view.read (Elt F) f₁) (bOf L)) (M₂ := rowM (arg4.view.read (Elt F) f₂) (bOf L))) $$ [H7 H8 H9 H10 H11 H12 HO]
  · unfold inv
    isplitr; · iexact Hmw
    isplitl [H7]; · iexact H7
    isplitl [H8]; · iexact H8
    isplitl [H9]; · iexact H9
    isplitl [H10]; · iexact H10
    isplitl [H11]; · iexact H11
    isplitl [H12]; · iexact H12
    iexact HO
  unfold inv
  iintro ⟨-, H7, H8, H9, H10, H11, H12, HO⟩
  iapply (win_wait d L arg2 q fx (c := 14) (by omega)) $$ [H7 HO]
  · isplitr; · iexact Hmw
    isplitl [H7]; · iexact H7
    iexact HO
  iintro ⟨⟨%Z7, -, H7⟩, Hx, Hs13, HO⟩
  iapply (win_wait d L arg2 q' fx (c := 15) (by omega)) $$ [H8 HO]
  · isplitr; · iexact Hmw
    isplitl [H8]; · iexact H8
    iexact HO
  iintro ⟨⟨%Z8, -, H8⟩, Hx', Hs14, HO⟩
  iapply (res_out d L) $$ [H11 H5 Hr2 HO]
  · isplitr; · iexact Hmw
    isplitl [H11]; · iexact H11
    isplitl [H5]; · iexact H5
    isplitl [Hr2]; · iexact Hr2
    iexact HO
  iintro ⟨H5, H11, Hr2, HO⟩
  iapply (res_out d L) $$ [H12 H6 Hr3 HO]
  · isplitr; · iexact Hmw
    isplitl [H12]; · iexact H12
    isplitl [H6]; · iexact H6
    isplitl [Hr3]; · iexact Hr3
    iexact HO
  iintro ⟨H6, H12, Hr3, HO⟩
  unfold wpT
  sl_step
  isplitr [H5 H6]
  · isplitl [Hx]; · iexact Hx
    isplitl [Hx']; · iexact Hx'
    isplitl [Hm1]; · iexact Hm1
    isplitl [Hm2]; · iexact Hm2
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [Hs13]; · iexact Hs13
    isplitl [Hs14]; · iexact Hs14
    isplitl [Hr0]; · iexact Hr0
    isplitl [Hr1]; · iexact Hr1
    isplitl [Hr2]; · iexact Hr2
    isplitl [Hr3]; · iexact Hr3
    iexact HO
  isplitl [H5]; · iexact H5
  iexact H6

end Run

end Cert.Proof.Chunk

end
-- ==== Proof.Setup.lean ====
/-
  What the SparseCore call takes and brings back: a read share of the input and of the two masks per subcore, and the
  subcore's thirty-two features of each result; and that a subcore's task, run from its part, leaves the maxima there.
-/
module

public import proofs.«01_k».proof.Proof.Body
public import Idealize.ShloMosaic.Lib.SparseCore.Quiescent
public import Idealize.ShloMosaic.Lib.StableHlo.Run
public import Idealize.ShloMosaic.Lib.Pipeline.Kit

@[expose] public section

noncomputable section

namespace Cert.Proof.Launch

open Cert.KernelIdeal Cert.KernelIdeal.Gen
open Cert.Proof.Chunk
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Own (Has Src)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds. -/
abbrev EH : Emb UH (MT nD τ sig (HIx 1) (Elt F) ℕ UU ℕ) := embL

/-! ## The arrays of the call -/

abbrev xLoc (d : Dev nD) : Loc nD τ sig := (SparseCore.T d).loc main_arg0
abbrev m1Loc (d : Dev nD) : Loc nD τ sig := (SparseCore.T d).loc main_v0
abbrev m2Loc (d : Dev nD) : Loc nD τ sig := (SparseCore.T d).loc main_v1
abbrev o1Loc (d : Dev nD) : Loc nD τ sig := (SparseCore.T d).loc main_v6_0
abbrev o2Loc (d : Dev nD) : Loc nD τ sig := (SparseCore.T d).loc main_v6_1

local notation "xV" => (Memref.whole Cert.KernelIdeal.main_arg0_scv : Memref Cert.KernelIdeal.sig Kind.scVector Space.hbm Cert.KernelIdeal.S4x2048x768 EltTy.f32)
local notation "m1V" => (Memref.whole Cert.KernelIdeal.main_v0_scv : Memref Cert.KernelIdeal.sig Kind.scVector Space.hbm Cert.KernelIdeal.S4x2048 EltTy.i32)
local notation "m2V" => (Memref.whole Cert.KernelIdeal.main_v1_scv : Memref Cert.KernelIdeal.sig Kind.scVector Space.hbm Cert.KernelIdeal.S4x2048 EltTy.i32)
local notation "o1V" => (Memref.whole Cert.KernelIdeal.main_v6_0_scv : Memref Cert.KernelIdeal.sig Kind.scVector Space.hbm Cert.KernelIdeal.S4x256 EltTy.f32)
local notation "o2V" => (Memref.whole Cert.KernelIdeal.main_v6_1_scv : Memref Cert.KernelIdeal.sig Kind.scVector Space.hbm Cert.KernelIdeal.S4x256 EltTy.f32)

/-- The grid's point of SparseCore `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of a result that a subcore writes. -/
abbrev outSet (L : grid0.Coords) : Finset S4x256.Idx := (outOf L o1V).view.set

/-- A subcore's number, as the read shares count them. -/
abbrev tok (L : grid0.Coords) : Fin 32 := finProdFinEquiv (m := 2) (n := 16) (L 0, L 1)
/-- Its share of each array it reads. -/
abbrev shr (L : grid0.Coords) : PosShare TreeShare := shareTok fullShare 32 (tok L)

variable [FloatOps F]

/-- The maxima of the last 256 features of an array under a mask. -/
def tailMax (X : S4x2048x768.Idx → F .f32) (M : S4x2048.Idx → BitVec 32) : S4x256.Idx → F .f32 :=
  fun j => resMax X (rowM M (j 0)) (j 0) (Fin.ofNat 768 (512 + (j 1).val)) 16

/-- What a subcore's task holds of the arrays. -/
def part (d : Dev nD) (L : grid0.Coords) (X : Buf (Elt F) (xLoc d)) (M₁ : Buf (Elt F) (m1Loc d)) (M₂ : Buf (Elt F) (m2Loc d))
    (g₁ : Buf (Elt F) (o1Loc d)) (g₂ : Buf (Elt F) (o2Loc d)) : sProp 𝕄 :=
  iprop((xLoc d ↦{(shr L).left} X) ∗ (xLoc d ↦{(shr L).right} X) ∗ (m1Loc d ↦{shr L} M₁) ∗ (m2Loc d ↦{shr L} M₂)
    ∗ (o1Loc d ↦[outSet L]{fullShare} g₁) ∗ (o2Loc d ↦[outSet L]{fullShare} g₂))

instance part_storable (d : Dev nD) (L : grid0.Coords) (X : Buf (Elt F) (xLoc d)) (M₁ : Buf (Elt F) (m1Loc d)) (M₂ : Buf (Elt F) (m2Loc d))
    (g₁ : Buf (Elt F) (o1Loc d)) (g₂ : Buf (Elt F) (o2Loc d)) : BI.Storable (upEmb : UEmb _ 𝕄) (part d L X M₁ M₂ g₁ g₂) := by
  unfold part; infer_instance

section Pay

variable (X : (d : Dev nD) → Buf (Elt F) (xLoc d)) (M₁ : (d : Dev nD) → Buf (Elt F) (m1Loc d)) (M₂ : (d : Dev nD) → Buf (Elt F) (m2Loc d))
  (w₁ : (d : Dev nD) → Buf (Elt F) (o1Loc d)) (w₂ : (d : Dev nD) → Buf (Elt F) (o2Loc d))

/-- A task's part before the call, -/
abbrev partIn (d : Dev nD) (L : grid0.Coords) : sProp 𝕄 := part d L (X d) (M₁ d) (M₂ d) (w₁ d) (w₂ d)
/-- and after it. -/
abbrev partOut (d : Dev nD) (L : grid0.Coords) : sProp 𝕄 := part d L (X d) (M₁ d) (M₂ d) (tailMax (X d) (M₁ d)) (tailMax (X d) (M₂ d))

/-- Each SparseCore takes its sixteen tasks' parts and brings them back. -/
def P : (K (F := F)).Pay (nD := nD) (Val := Elt F) (Name := ℕ) (U := UU) where
  st := fun q d c => match q with | 0 => bigSep Finset.univ fun s : Fin 16 => partIn X M₁ M₂ w₁ w₂ d (coordsV (Fin.cast nCore_zero c) s)
  dn := fun q d c => match q with | 0 => bigSep Finset.univ fun s : Fin 16 => partOut X M₁ M₂ d (coordsV (Fin.cast nCore_zero c) s)
  go := fun q d c i => match q with | 0 => partIn X M₁ M₂ w₁ w₂ d (coordsV (Fin.cast nCore_zero c) (Fin.cast nSub_zero i))
  td := fun q d c i => match q with | 0 => partOut X M₁ M₂ d (coordsV (Fin.cast nCore_zero c) (Fin.cast nSub_zero i))
  x := fun _ _ => iprop(emp)

instance P_storable : (P (F := F) X M₁ M₂ w₁ w₂).IsStorable where
  st q d c := match q with
    | 0 =>
      haveI : ∀ s : Fin 16, BI.Storable (upEmb : UEmb _ 𝕄) (partIn X M₁ M₂ w₁ w₂ d (coordsV (Fin.cast nCore_zero c) s)) := fun s => part_storable d (coordsV (Fin.cast nCore_zero c) s) (X d) (M₁ d) (M₂ d) (w₁ d) (w₂ d)
      BI.Storable.bigSep (upEmb : UEmb _ 𝕄) Finset.univ fun s : Fin 16 => partIn X M₁ M₂ w₁ w₂ d (coordsV (Fin.cast nCore_zero c) s)
  dn q d c := match q with
    | 0 =>
      haveI : ∀ s : Fin 16, BI.Storable (upEmb : UEmb _ 𝕄) (partOut X M₁ M₂ d (coordsV (Fin.cast nCore_zero c) s)) := fun s => part_storable d (coordsV (Fin.cast nCore_zero c) s) (X d) (M₁ d) (M₂ d) (tailMax (X d) (M₁ d)) (tailMax (X d) (M₂ d))
      BI.Storable.bigSep (upEmb : UEmb _ 𝕄) Finset.univ fun s : Fin 16 => partOut X M₁ M₂ d (coordsV (Fin.cast nCore_zero c) s)
  go q d c i := match q with
    | 0 => (inferInstance : BI.Storable (upEmb : UEmb _ 𝕄) (partIn X M₁ M₂ w₁ w₂ d (coordsV (Fin.cast nCore_zero c) (Fin.cast nSub_zero i))))
  td q d c i := match q with
    | 0 => (inferInstance : BI.Storable (upEmb : UEmb _ 𝕄) (partOut X M₁ M₂ d (coordsV (Fin.cast nCore_zero c) (Fin.cast nSub_zero i))))

end Pay

/-! ## The task -/

section Tile

variable (d : Dev nD) (L : grid0.Coords)

/-- A subcore's slice of a result at the maxima of the whole. -/
theorem read_out {arg : Memref sig .scVector .hbm S4x256 .f32} (f : arg.view.ty.Contents (Elt F)) (l : S32.Idx) :
    (outOf L arg).view.read (Elt F) f l = arg.view.read (Elt F) f (ix2 (bOf L) (Fin.ofNat 256 (32 * (wid L % 8) + (l 0).val))) := by
  refine (congrFun (Memref.read_squeeze_slice (Val := Elt F) arg (Rect.unit (s := S4x256) (k0_off8 L) S1x32.size (k0_off8_inb L)) (fun _ => rfl)
    squeezes_S1x32_S32 (show S1x32.ShapeCasts S32 by decide) f) l).trans ?_
  refine (shapeCast_dropUnit_apply ![32] _ _ l).trans ?_
  refine congrArg (arg.view.read (Elt F) f) ?_
  have ho := off8_eq L
  have hl : (l 0).val < 32 := (l 0).isLt
  funext a; apply Fin.ext
  match a with
  | ⟨0, _⟩ => show k0_off8 L 0 + 1 * 0 = (bOf L).val; rw [ho]; rfl
  | ⟨1, _⟩ => show k0_off8 L 1 + 1 * (l 0).val = (32 * (wid L % 8) + (l 0).val) % 256; rw [ho]; show 32 * (wid L % 8) + 1 * (l 0).val = _; omega

theorem read_tail {arg : Memref sig .scVector .hbm S4x256 .f32} (X : S4x2048x768.Idx → F .f32) (M : S4x2048.Idx → BitVec 32)
    (f : arg.view.ty.Contents (Elt F)) (hf : arg.view.read (Elt F) f = tailMax X M) :
    (outOf L arg).view.read (Elt F) f = resV X (rowM M (bOf L)) (bOf L) (fOf L) 16 := by
  funext l
  rw [read_out, hf]
  have hl : (l 0).val < 32 := (l 0).isLt
  show resMax X (rowM M (bOf L)) (bOf L) (Fin.ofNat 768 (512 + (32 * (wid L % 8) + (l 0).val) % 256)) 16 = resMax X (rowM M (bOf L)) (bOf L) (Fin.ofNat 768 (512 + 32 * (wid L % 8) + (l 0).val)) 16
  rw [Nat.mod_eq_of_lt (show 32 * (wid L % 8) + (l 0).val < 256 by omega), Nat.add_assoc]

/-- The subcore's own buffers. -/
def bufs : Finset (Ref sig .scVector) := {cc0_scratch0, cc0_scratch1, cc0_scratch2, cc0_scratch3, cc0_scratch4, cc0_scratch5}
/-- The DMA semaphores it names. -/
def sems : Finset (DmaSem sig) := {cc0_scratch6.sem, cc0_scratch7.sem, cc0_scoped0.sem, cc0_scoped1.sem, cc0_scoped2.sem, cc0_scoped3.sem}

omit [FloatOps F] in
theorem ownBufs_V : ∃ R : sProp 𝕄, (ownBufs (VT d L) : sProp 𝕄)
      = iprop(((∃ f, (VT d L).loc cc0_scratch0 ↦{fullShare} f) ∗ (∃ f, (VT d L).loc cc0_scratch1 ↦{fullShare} f) ∗ (∃ f, (VT d L).loc cc0_scratch2 ↦{fullShare} f)
          ∗ (∃ f, (VT d L).loc cc0_scratch3 ↦{fullShare} f) ∗ (∃ f, (VT d L).loc cc0_scratch4 ↦{fullShare} f) ∗ ∃ f, (VT d L).loc cc0_scratch5 ↦{fullShare} f) ∗ R) := by
  have hsub : bufs.map ⟨(Proc.scVector (cV L) (jV L)).devRef, Proc.devRef_injective _⟩ ⊆ ownRefs (τ := τ) (.scVector (cV L) (jV L)) := by
    intro b hb
    obtain ⟨r, hr, rfl⟩ := Finset.mem_map.mp hb
    simp only [bufs, Finset.mem_insert, Finset.mem_singleton] at hr
    rcases hr with rfl | rfl | rfl | rfl | rfl | rfl <;> exact SparseCore.Cfg.mem_ownRefs_of_owner rfl
  refine ⟨bigSep (ownRefs (τ := τ) (.scVector (cV L) (jV L)) \ bufs.map ⟨(Proc.scVector (cV L) (jV L)).devRef, Proc.devRef_injective _⟩)
    fun b => iprop(∃ f, ((d, b) : Loc nD τ sig) ↦{fullShare} f), ?_⟩
  refine (BI.bigSep_sdiff_split (Φ := fun b : DevRef τ sig => (iprop(∃ f, ((d, b) : Loc nD τ sig) ↦{fullShare} f) : sProp 𝕄)) hsub).trans ?_
  rw [bigSep_map]
  unfold bufs
  rw [SparseCore.bigSep_insert' (show (cc0_scratch0 : Ref sig .scVector) ∉ ({cc0_scratch1, cc0_scratch2, cc0_scratch3, cc0_scratch4, cc0_scratch5} : Finset (Ref sig .scVector)) by decide),
    SparseCore.bigSep_insert' (show (cc0_scratch1 : Ref sig .scVector) ∉ ({cc0_scratch2, cc0_scratch3, cc0_scratch4, cc0_scratch5} : Finset (Ref sig .scVector)) by decide),
    SparseCore.bigSep_insert' (show (cc0_scratch2 : Ref sig .scVector) ∉ ({cc0_scratch3, cc0_scratch4, cc0_scratch5} : Finset (Ref sig .scVector)) by decide),
    SparseCore.bigSep_insert' (show (cc0_scratch3 : Ref sig .scVector) ∉ ({cc0_scratch4, cc0_scratch5} : Finset (Ref sig .scVector)) by decide),
    SparseCore.bigSep_insert' (show (cc0_scratch4 : Ref sig .scVector) ∉ ({cc0_scratch5} : Finset (Ref sig .scVector)) by decide), bigSep_singleton]
  rfl

omit [FloatOps F] in
theorem ownSems0_V : ∃ R : sProp 𝕄, (ownSems0 (VT d L) : sProp 𝕄)
      = iprop((semVal (VT d L, .dma cc0_scratch6.sem) 0 ∗ semVal (VT d L, .dma cc0_scratch7.sem) 0 ∗ semVal (VT d L, .dma cc0_scoped0.sem) 0
          ∗ semVal (VT d L, .dma cc0_scoped1.sem) 0 ∗ semVal (VT d L, .dma cc0_scoped2.sem) 0 ∗ semVal (VT d L, .dma cc0_scoped3.sem) 0) ∗ R) := by
  classical
  have hsub : sems.map ⟨fun s => ((VT d L, .dma s) : GSem nD τ sig), fun a b h => by cases h; rfl⟩ ⊆ ownCells (VT d L) := by
    intro b hb
    obtain ⟨r, hr, rfl⟩ := Finset.mem_map.mp hb
    refine mem_ownCells.mpr ⟨rfl, ?_⟩
    show (SemLoc.dma r : SemLoc sig).isScoped .scVector = true
    simp only [sems, Finset.mem_insert, Finset.mem_singleton] at hr
    rcases hr with rfl | rfl | rfl | rfl | rfl | rfl <;> decide
  refine ⟨bigSep (ownCells (VT d L) \ sems.map ⟨fun s => ((VT d L, .dma s) : GSem nD τ sig), fun a b h => by cases h; rfl⟩) fun g => semVal g 0, ?_⟩
  refine (BI.bigSep_sdiff_split (Φ := fun g => (semVal g 0 : sProp 𝕄)) hsub).trans ?_
  rw [bigSep_map]
  unfold sems
  rw [SparseCore.bigSep_insert' (by decide), SparseCore.bigSep_insert' (by decide), SparseCore.bigSep_insert' (by decide), SparseCore.bigSep_insert' (by decide),
    SparseCore.bigSep_insert' (by decide), bigSep_singleton]
  rfl

end Tile

end Cert.Proof.Launch

end
-- ==== Proof.Task.lean ====
/-
  A subcore's task from its part of the arrays, and the SparseCore call's two obligations: each task run, and the parts handed
  from a SparseCore to its tasks.
-/
module

public import proofs.«01_k».proof.Proof.Setup

@[expose] public section

noncomputable section

namespace Cert.Proof.Launch

open Cert.KernelIdeal Cert.KernelIdeal.Gen
open Cert.Proof.Chunk
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Own (Has Src)

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4x2048x768 EltTy.f32)
local notation "m1V" => (Memref.whole Cert.KernelIdeal.main_v0_scv : Memref Cert.KernelIdeal.sig Kind.scVector Space.hbm Cert.KernelIdeal.S4x2048 EltTy.i32)
local notation "m2V" => (Memref.whole Cert.KernelIdeal.main_v1_scv : Memref Cert.KernelIdeal.sig Kind.scVector Space.hbm Cert.KernelIdeal.S4x2048 EltTy.i32)
local notation "o1V" => (Memref.whole Cert.KernelIdeal.main_v6_0_scv : Memref Cert.KernelIdeal.sig Kind.scVector Space.hbm Cert.KernelIdeal.S4x256 EltTy.f32)
local notation "o2V" => (Memref.whole Cert.KernelIdeal.main_v6_1_scv : Memref Cert.KernelIdeal.sig Kind.scVector Space.hbm Cert.KernelIdeal.S4x256 EltTy.f32)

section Tile

variable (d : Dev nD) (L : grid0.Coords)

theorem has_in (b : Ref sig .scVector) : (iprop(∃ f, (VT d L).loc b ↦{fullShare} f) : sProp 𝕄) ⊢ iprop(∃ Y, Has (Val := Elt F) (VT d L) (Memref.whole b) Y) := by
  iintro ⟨%f, H⟩
  iexists _
  iapply (Has.intro (VT d L) (Memref.whole b) f)
  rw [show (Memref.whole b).view.set = Finset.univ from View.set_whole b]
  iexact H

theorem has_out (b : Ref sig .scVector) : (iprop(∃ Y, Has (Val := Elt F) (VT d L) (Memref.whole b) Y) : sProp 𝕄) ⊢ iprop(∃ f, (VT d L).loc b ↦{fullShare} f) := by
  unfold Cert.Proof.Own.Has
  iintro ⟨%Y, %f, -, H⟩
  iexists f
  rw [show (Memref.whole b).view.set = Finset.univ from View.set_whole b]
  iexact H

theorem out_in (b : Memref sig .scVector .hbm S4x256 .f32) (f : Buf (Elt F) (b.view.loc (VT d L))) :
    (b.view.loc (VT d L) ↦[(outOf L b).view.set]{fullShare} f : sProp 𝕄) ⊢ iprop(∃ Y, Has (Val := Elt F) (VT d L) (outOf L b) Y) := by
  iintro H
  iexists _
  iapply (Has.intro (VT d L) (outOf L b) f)
  iexact H

/-- A slice that reads as the maxima holds them. -/
theorem out_out (b : Memref sig .scVector .hbm S4x256 .f32) (g : Buf (Elt F) (b.view.loc (VT d L))) (R : S32.Idx → F .f32)
    (hg : (outOf L b).view.read (Elt F) g = R) :
    (Has (Val := Elt F) (VT d L) (outOf L b) R : sProp 𝕄) ⊢ (b.view.loc (VT d L) ↦[(outOf L b).view.set]{fullShare} g : sProp 𝕄) := by
  unfold Cert.Proof.Own.Has
  iintro ⟨%f, %hf, H⟩
  have he : ∀ i ∈ (outOf L b).view.set, f i = g i := by
    intro i hi
    obtain ⟨y, -, rfl⟩ := Finset.mem_map.mp hi
    exact (_root_.cast_inj _).mp (congrFun (hf.trans hg.symm) y)
  iapply (Entails.of_eq (pointsTo_congr he))
  iexact H

variable (X : (d : Dev nD) → Buf (Elt F) (xLoc d)) (M₁ : (d : Dev nD) → Buf (Elt F) (m1Loc d)) (M₂ : (d : Dev nD) → Buf (Elt F) (m2Loc d))
  (w₁ : (d : Dev nD) → Buf (Elt F) (o1Loc d)) (w₂ : (d : Dev nD) → Buf (Elt F) (o2Loc d))

theorem src_x (q : PosShare TreeShare) (f : Buf (Elt F) (xLoc d)) : (Src (VT d L) xV q f : sProp 𝕄) = (xLoc d ↦{q} f) := rfl
theorem src_m1 (q : PosShare TreeShare) (f : Buf (Elt F) (m1Loc d)) : (Src (VT d L) m1V q f : sProp 𝕄) = (m1Loc d ↦{q} f) := rfl
theorem src_m2 (q : PosShare TreeShare) (f : Buf (Elt F) (m2Loc d)) : (Src (VT d L) m2V q f : sProp 𝕄) = (m2Loc d ↦{q} f) := rfl

theorem tile_body (hF : (K (F := F)).Facts) (O : CellTallies nD τ sig (HIx 1)) (W : Waits sig (HIx 1)) (hO : ∀ g, O g none = 0) :
    (iprop(levAts (K (F := F)).L (K (F := F)).lev ∗ emp ∗ partIn X M₁ M₂ w₁ w₂ d L ∗ scopedBufs (VT d L) ∗ scopedSems0 (VT d L) ∗ owes (VT d L) O W) : sProp 𝕄)
      ⊢ wp frame (wpE (defs₀ (F := F)) 𝒱₀ (VT d L) none) Set.univ
          (cc0__sc_body (F := F) L xV (Memref.isWhole_whole _) m1V (Memref.isWhole_whole _) m2V (Memref.isWhole_whole _) o1V (Memref.isWhole_whole _) o2V (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3)
          fun _ => iprop(partOut X M₁ M₂ d L ∗ scopedBufs (VT d L) ∗ scopedSems0 (VT d L)
            ∗ ∃ W', ⌜∀ p ∈ W', p ∈ W ∨ p.2 = none ∨ p.2 = some (0 : Fin 1)⌝ ∗ owes (VT d L) O W') := by
  obtain ⟨RB, hB⟩ := ownBufs_V (F := F) d L
  obtain ⟨RS, hS⟩ := ownSems0_V (F := F) d L
  have e1 : (scopedBufs (VT d L) : sProp 𝕄) = ownBufs (VT d L) := (K (F := F)).scopedBufs_V hF d (cV L) (jV L)
  have e2 : (scopedSems0 (VT d L) : sProp 𝕄) = ownSems0 (VT d L) := SparseCore.Cfg.scopedSems0_V (Val := Elt F) d (cV L) (jV L)
  rw [e1, e2, hB, hS]
  iintro ⟨#Hlv, -, Hp, ⟨⟨H0, H1, H2, H3, H4, H5⟩, HB⟩, ⟨⟨S6, S7, Z0, Z1, Z2, Z3⟩, HS⟩, HO⟩
  ihave Hmw := (show levAts (K (F := F)).L (K (F := F)).lev ⊢ Transfers.MayWaits (VT d L) (default : HIx 1) O from
    (K (F := F)).mayWaits_none (thr := VT d L) hO) $$ Hlv
  ihave Hp' := (Entails.of_eq (show (partIn X M₁ M₂ w₁ w₂ d L : sProp 𝕄) = iprop((xLoc d ↦{(shr L).left} X d) ∗ (xLoc d ↦{(shr L).right} X d) ∗ (m1Loc d ↦{shr L} M₁ d) ∗ (m2Loc d ↦{shr L} M₂ d)
    ∗ (o1Loc d ↦[outSet L]{fullShare} w₁ d) ∗ (o2Loc d ↦[outSet L]{fullShare} w₂ d)) from rfl)) $$ Hp
  icases Hp' with ⟨Hx, Hx', Hm1, Hm2, Ho1, Ho2⟩
  ihave G0 := (has_in (F := F) d L cc0_scratch0) $$ H0
  ihave G1 := (has_in (F := F) d L cc0_scratch1) $$ H1
  ihave G2 := (has_in (F := F) d L cc0_scratch2) $$ H2
  ihave G3 := (has_in (F := F) d L cc0_scratch3) $$ H3
  ihave G4 := (has_in (F := F) d L cc0_scratch4) $$ H4
  ihave G5 := (has_in (F := F) d L cc0_scratch5) $$ H5
  ihave P1 := (out_in (F := F) d L o1V (w₁ d)) $$ Ho1
  ihave P2 := (show (o2Loc d ↦[outSet L]{fullShare} w₂ d : sProp 𝕄) ⊢ iprop(∃ Y, Has (Val := Elt F) (VT d L) (outOf L o2V) Y) from out_in (F := F) d L o2V (w₂ d)) $$ Ho2
  iapply (wp_wand_r frame (wpE (defs₀ (F := F)) 𝒱₀ (VT d L) none) Set.univ)
  isplitr [HB HS]
  · iapply (body_wp (F := F) d L xV (Memref.isWhole_whole _) m1V (Memref.isWhole_whole _) m2V (Memref.isWhole_whole _) o1V (Memref.isWhole_whole _) o2V (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3 O (shr L).left (shr L).right (shr L) (shr L) (X d) (M₁ d) (M₂ d))
    unfold Held
    isplitl [Hmw]; · iexact Hmw
    isplitr [P1 P2]
    · isplitl [Hx]; · iapply (Entails.of_eq (src_x d L _ _).symm); iexact Hx
      isplitl [Hx']; · iapply (Entails.of_eq (src_x d L _ _).symm); iexact Hx'
      isplitl [Hm1]; · iapply (Entails.of_eq (src_m1 d L _ _).symm); iexact Hm1
      isplitl [Hm2]; · iapply (Entails.of_eq (src_m2 d L _ _).symm); iexact Hm2
      isplitl [G0]; · iexact G0
      isplitl [G1]; · iexact G1
      isplitl [G2]; · iexact G2
      isplitl [G3]; · iexact G3
      isplitl [G4]; · iexact G4
      isplitl [G5]; · iexact G5
      isplitl [S6]; · iexact S6
      isplitl [S7]; · iexact S7
      isplitl [Z0]; · iexact Z0
      isplitl [Z1]; · iexact Z1
      isplitl [Z2]; · iexact Z2
      isplitl [Z3]; · iexact Z3
      iexists W; iexact HO
    isplitl [P1]; · iexact P1
    iexact P2
  unfold Held
  iintro %_ ⟨⟨Hx, Hx', Hm1, Hm2, G0, G1, G2, G3, G4, G5, S6, S7, Z0, Z1, Z2, Z3, ⟨%W', HO⟩⟩, P1, P2⟩
  ihave H0 := (has_out (F := F) d L cc0_scratch0) $$ G0
  ihave H1 := (has_out (F := F) d L cc0_scratch1) $$ G1
  ihave H2 := (has_out (F := F) d L cc0_scratch2) $$ G2
  ihave H3 := (has_out (F := F) d L cc0_scratch3) $$ G3
  ihave H4 := (has_out (F := F) d L cc0_scratch4) $$ G4
  ihave H5 := (has_out (F := F) d L cc0_scratch5) $$ G5
  isplitl [Hx Hx' Hm1 Hm2 P1 P2]
  · iapply (Entails.of_eq (show iprop((xLoc d ↦{(shr L).left} X d) ∗ (xLoc d ↦{(shr L).right} X d) ∗ (m1Loc d ↦{shr L} M₁ d) ∗ (m2Loc d ↦{shr L} M₂ d)
      ∗ (o1Loc d ↦[outSet L]{fullShare} tailMax (X d) (M₁ d)) ∗ (o2Loc d ↦[outSet L]{fullShare} tailMax (X d) (M₂ d))) = (partOut X M₁ M₂ d L : sProp 𝕄) from rfl))
    isplitl [Hx]; · iapply (Entails.of_eq (src_x d L _ _)); iexact Hx
    isplitl [Hx']; · iapply (Entails.of_eq (src_x d L _ _)); iexact Hx'
    isplitl [Hm1]; · iapply (Entails.of_eq (src_m1 d L _ _)); iexact Hm1
    isplitl [Hm2]; · iapply (Entails.of_eq (src_m2 d L _ _)); iexact Hm2
    isplitl [P1]
    · iapply (out_out (F := F) d L o1V (tailMax (X d) (M₁ d)) _ (read_tail L (X d) (M₁ d) (arg := o1V) _ rfl)); iexact P1
    iapply (show (Has (Val := Elt F) (VT d L) (outOf L o2V) (resAt d L xV (X d) (rowM (View.read (Elt F) (m2V).view (M₂ d)) (bOf L)) 16) : sProp 𝕄)
      ⊢ (o2Loc d ↦[outSet L]{fullShare} tailMax (X d) (M₂ d)) from
        out_out (F := F) d L o2V (tailMax (X d) (M₂ d)) _ (read_tail L (X d) (M₂ d) (arg := o2V) _ rfl))
    iexact P2
  isplitl [H0 H1 H2 H3 H4 H5 HB]
  · isplitr [HB]
    · isplitl [H0]; · iexact H0
      isplitl [H1]; · iexact H1
      isplitl [H2]; · iexact H2
      isplitl [H3]; · iexact H3
      isplitl [H4]; · iexact H4
      iexact H5
    iexact HB
  isplitl [S6 S7 Z0 Z1 Z2 Z3 HS]
  · isplitr [HS]
    · isplitl [S6]; · iexact S6
      isplitl [S7]; · iexact S7
      isplitl [Z0]; · iexact Z0
      isplitl [Z1]; · iexact Z1
      isplitl [Z2]; · iexact Z2
      iexact Z3
    iexact HS
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 ()
      = SparseCore.onTile hcore0 hsub0 (fun c s => cc0__sc_body (F := F) (coordsV c s)
            xV (Memref.isWhole_whole _) m1V (Memref.isWhole_whole _) m2V (Memref.isWhole_whole _) o1V (Memref.isWhole_whole _) o2V (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 cc0_scoped2 cc0_scoped3) ⟨⟩ c s := rfl

theorem tileObl (hF : (K (F := F)).Facts) : (K (F := F)).TileObl (D (F := F)) 𝒱 (P X M₁ M₂ w₁ w₂) v₀ 0 := by
  intro d c i O W hO _ _
  simp only [show (P X M₁ M₂ w₁ w₂).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) X M₁ M₂ w₁ w₂ hF O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem split_tasks (Φ Ψ : Fin 16 → sProp 𝕄) :
    (bigSep Finset.univ Φ) ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ bigSep Finset.univ Ψ)) := by
  rw [bigSep_tasks (F := F) Φ, bigSep_tasks (F := F) Ψ]
  iintro H; imodintro
  isplitl [H]; · iexact H
  iintro H; iexact H

theorem vecSplit : (K (F := F)).VecSplit' (P X M₁ M₂ w₁ w₂) 0 := by
  intro d c
  exact split_tasks (F := F) (fun s => partIn X M₁ M₂ w₁ w₂ d (coordsV (Fin.cast nCore_zero c) s)) (fun s => partOut X M₁ M₂ d (coordsV (Fin.cast nCore_zero c) s))

end Tile

end Cert.Proof.Launch

end
-- ==== Proof.Split.lean ====
/-
  The arrays of the SparseCore call split over its thirty-two subcores and joined again: a read share of each array read, and
  for the results the slices of the subcores, which partition them.
-/
module

public import proofs.«01_k».proof.Proof.Task

@[expose] public section

noncomputable section

namespace Cert.Proof.Launch

open Cert.KernelIdeal Cert.KernelIdeal.Gen
open Cert.Proof.Chunk
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.Proof.Own (Has Src)

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4x2048x768 EltTy.f32)
local notation "m1V" => (Memref.whole Cert.KernelIdeal.main_v0_scv : Memref Cert.KernelIdeal.sig Kind.scVector Space.hbm Cert.KernelIdeal.S4x2048 EltTy.i32)
local notation "m2V" => (Memref.whole Cert.KernelIdeal.main_v1_scv : Memref Cert.KernelIdeal.sig Kind.scVector Space.hbm Cert.KernelIdeal.S4x2048 EltTy.i32)
local notation "o1V" => (Memref.whole Cert.KernelIdeal.main_v6_0_scv : Memref Cert.KernelIdeal.sig Kind.scVector Space.hbm Cert.KernelIdeal.S4x256 EltTy.f32)
local notation "o2V" => (Memref.whole Cert.KernelIdeal.main_v6_1_scv : Memref Cert.KernelIdeal.sig Kind.scVector Space.hbm Cert.KernelIdeal.S4x256 EltTy.f32)

/-! ## The subcores' slices of a result partition it -/

/-- The grid's point of a pair. -/
abbrev atPair (p : Fin 2 × Fin 16) : grid0.Coords := coordsV p.1 p.2

omit [FloatOps F] in
theorem wid_pair (p : Fin 2 × Fin 16) : wid (atPair p) = p.2.val * 2 + p.1.val := rfl

omit [FloatOps F] in
theorem mem_outSet (L : grid0.Coords) (j : S4x256.Idx) :
    j ∈ outSet L ↔ (j 0).val = (bOf L).val ∧ 32 * (wid L % 8) ≤ (j 1).val ∧ (j 1).val < 32 * (wid L % 8) + 32 := by
  have hs : outSet L = (Rect.unit (s := S4x256) (k0_off8 L) S1x32.size (k0_off8_inb L)).set :=
    (View.set_reshape _ _).trans (View.set_slice_whole _ _)
  rw [hs, Rect.mem_set_unit]
  have ho := off8_eq L
  constructor
  · intro h
    have h0 := h 0
    have h1 := h 1
    rw [ho] at h0 h1
    have e0 : (S1x32.size 0 : ℕ) = 1 := rfl
    have e1 : (S1x32.size 1 : ℕ) = 32 := rfl
    simp only [Matrix.cons_val_zero, Matrix.cons_val_one] at h0 h1
    omega
  · rintro ⟨h0, h1, h2⟩ a
    rw [ho]
    match a with
    | ⟨0, _⟩ => exact ⟨h0.ge, show (j 0).val < (bOf L).val + 1 by omega⟩
    | ⟨1, _⟩ => exact ⟨h1, h2⟩

omit [FloatOps F] in
theorem out_disjoint : ∀ p ∈ (Finset.univ : Finset (Fin 2 × Fin 16)), ∀ p' ∈ (Finset.univ : Finset (Fin 2 × Fin 16)), p ≠ p' → Disjoint (outSet (atPair p)) (outSet (atPair p')) := by
  intro p _ p' _ hne
  refine Finset.disjoint_left.mpr fun j h h' => hne ?_
  rw [mem_outSet] at h h'
  have hb : (bOf (atPair p)).val = (p.2.val * 2 + p.1.val) / 8 % 4 := rfl
  have hb' : (bOf (atPair p')).val = (p'.2.val * 2 + p'.1.val) / 8 % 4 := rfl
  rw [hb, wid_pair] at h
  rw [hb', wid_pair] at h'
  have := p.1.isLt; have := p.2.isLt; have := p'.1.isLt; have := p'.2.isLt
  refine Prod.ext (Fin.ext ?_) (Fin.ext ?_) <;> omega

omit [FloatOps F] in
theorem out_cover : (Finset.univ : Finset (Fin 2 × Fin 16)).biUnion (fun p => outSet (atPair p)) = Finset.univ := by
  refine Finset.eq_univ_iff_forall.mpr fun j => Finset.mem_biUnion.mpr ?_
  have h0 : (j 0).val < 4 := (j 0).isLt
  have h1 : (j 1).val < 256 := (j 1).isLt
  let w := 8 * (j 0).val + (j 1).val / 32
  refine ⟨(⟨w % 2, by omega⟩, ⟨w / 2, by omega⟩), Finset.mem_univ _, ?_⟩
  rw [mem_outSet]
  have hw : wid (atPair (⟨w % 2, by omega⟩, ⟨w / 2, by omega⟩)) = w := by rw [wid_pair]; show w / 2 * 2 + w % 2 = w; omega
  have hb : (bOf (atPair (⟨w % 2, by omega⟩, ⟨w / 2, by omega⟩))).val = w / 8 % 4 := by
    show wid _ / 8 % 4 = _; rw [hw]
  rw [hw, hb]
  omega

omit [FloatOps F] in
theorem o1_parts (d : Dev nD) (f : Buf (Elt F) (o1Loc d)) :
    (o1Loc d ↦{fullShare} f : sProp 𝕄) = bigSep Finset.univ fun p : Fin 2 × Fin 16 => o1Loc d ↦[outSet (atPair p)]{fullShare} f := by
  rw [← pointsTo_biUnion Finset.univ (ℓ := o1Loc d) (fun p => outSet (atPair p)) out_disjoint, out_cover]; try rfl
omit [FloatOps F] in
theorem o2_parts (d : Dev nD) (f : Buf (Elt F) (o2Loc d)) :
    (o2Loc d ↦{fullShare} f : sProp 𝕄) = bigSep Finset.univ fun p : Fin 2 × Fin 16 => o2Loc d ↦[outSet (atPair p)]{fullShare} f := by
  rw [← pointsTo_biUnion Finset.univ (ℓ := o2Loc d) (fun p => outSet (atPair p)) out_disjoint, out_cover]; try rfl

/-! ## The read shares -/

omit [FloatOps F] in
theorem shares (ℓ : Loc nD τ sig) (f : Buf (Elt F) ℓ) :
    (ℓ ↦{fullShare} f : sProp 𝕄) = iprop((ℓ ↦{shareDrop fullShare 32} f) ∗ bigSep Finset.univ fun p : Fin 2 × Fin 16 => ℓ ↦{shr (atPair p)} f) := by
  have h : (ℓ ↦{fullShare} f : sProp 𝕄) = iprop((ℓ ↦{shareDrop fullShare 32} f) ∗ bigSep Finset.univ fun i : Fin 32 => ℓ ↦{shareTok fullShare 32 i} f) :=
    (pointsTo_toks fullShare 32).1.antisymm (pointsTo_toks fullShare 32).2
  rw [h]
  congr 1

omit [FloatOps F] in
theorem halves (ℓ : Loc nD τ sig) (q : PosShare TreeShare) (f : Buf (Elt F) ℓ) :
    (ℓ ↦{q} f : sProp 𝕄) = iprop((ℓ ↦{q.left} f) ∗ (ℓ ↦{q.right} f)) :=
  (pointsTo_share (PosShare.mem_left_op_right q)).1.antisymm (pointsTo_share (PosShare.mem_left_op_right q)).2

/-- What the call leaves with the caller of the arrays it reads. -/
def kept (d : Dev nD) (X : Buf (Elt F) (xLoc d)) (M₁ : Buf (Elt F) (m1Loc d)) (M₂ : Buf (Elt F) (m2Loc d)) : sProp 𝕄 :=
  iprop((xLoc d ↦{shareDrop fullShare 32} X) ∗ (m1Loc d ↦{shareDrop fullShare 32} M₁) ∗ (m2Loc d ↦{shareDrop fullShare 32} M₂))

omit [FloatOps F] in
theorem parts_eq (d : Dev nD) (X : Buf (Elt F) (xLoc d)) (M₁ : Buf (Elt F) (m1Loc d)) (M₂ : Buf (Elt F) (m2Loc d))
    (g₁ : Buf (Elt F) (o1Loc d)) (g₂ : Buf (Elt F) (o2Loc d)) :
    (iprop((xLoc d ↦{fullShare} X) ∗ (m1Loc d ↦{fullShare} M₁) ∗ (m2Loc d ↦{fullShare} M₂) ∗ (o1Loc d ↦{fullShare} g₁) ∗ (o2Loc d ↦{fullShare} g₂)) : sProp 𝕄)
      ⊣⊢ iprop(kept d X M₁ M₂ ∗ bigSep Finset.univ fun c : Fin ((K (F := F)).nCore 0) => bigSep Finset.univ fun s : Fin 16 => part d (coordsV (Fin.cast nCore_zero c) s) X M₁ M₂ g₁ g₂) := by
  have hp : (bigSep Finset.univ fun c : Fin ((K (F := F)).nCore 0) => bigSep Finset.univ fun s : Fin 16 => part d (coordsV (Fin.cast nCore_zero c) s) X M₁ M₂ g₁ g₂ : sProp 𝕄)
      = iprop((bigSep Finset.univ fun p : Fin 2 × Fin 16 => xLoc d ↦{shr (atPair p)} X) ∗ (bigSep Finset.univ fun p : Fin 2 × Fin 16 => m1Loc d ↦{shr (atPair p)} M₁)
        ∗ (bigSep Finset.univ fun p : Fin 2 × Fin 16 => m2Loc d ↦{shr (atPair p)} M₂) ∗ (bigSep Finset.univ fun p : Fin 2 × Fin 16 => o1Loc d ↦[outSet (atPair p)]{fullShare} g₁)
        ∗ (bigSep Finset.univ fun p : Fin 2 × Fin 16 => o2Loc d ↦[outSet (atPair p)]{fullShare} g₂)) := by
    rw [← bigSep_sep', ← bigSep_sep', ← bigSep_sep', ← bigSep_sep']
    refine ((BI.bigSep_univ_prod (fun p : Fin 2 × Fin 16 => part d (atPair p) X M₁ M₂ g₁ g₂)).symm).trans ?_
    refine BI.bigSep_congr fun p _ => ?_
    unfold part
    rw [halves (xLoc d) (shr (atPair p)) X]
    exact sep_assoc'.antisymm sep_assoc
  rw [hp, shares (xLoc d) X, shares (m1Loc d) M₁, shares (m2Loc d) M₂, o1_parts, o2_parts]
  unfold kept
  constructor
  · iintro ⟨⟨A, A'⟩, ⟨B, B'⟩, ⟨C, C'⟩, D, E⟩
    isplitl [A B C]
    · isplitl [A]; · iexact A
      isplitl [B]; · iexact B
      iexact C
    isplitl [A']; · iexact A'
    isplitl [B']; · iexact B'
    isplitl [C']; · iexact C'
    isplitl [D]; · iexact D
    iexact E
  · iintro ⟨⟨A, B, C⟩, A', B', C', D, E⟩
    isplitl [A A']
    · isplitl [A]; · iexact A
      iexact A'
    isplitl [B B']
    · isplitl [B]; · iexact B
      iexact B'
    isplitl [C C']
    · isplitl [C]; · iexact C
      iexact C'
    isplitl [D]; · iexact D
    iexact E

end Cert.Proof.Launch

end
-- ==== Proof.TcBody.lean ====
/-
  The two TensorCore bodies, at one grid point each: what they compute as functions of their windows' contents, and the
  proof that running them leaves it.
-/
module

public import proofs.«01_k».proof.Proof.ChunkWp

@[expose] public section

noncomputable section

namespace Cert.Proof.Tc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Own (Has)
open Cert.Proof.Chunk (UU 𝒱₀)

variable {F : FTy → Type} [FloatOps F]

local notation "𝕄" => MT nD τ sig (HIx 1) (Elt F) ℕ UU ℕ

/-! ## The values -/

/-- The maxima over one batch row's tokens of the biased features, from the blocks of features and biases. -/
def poolRow (X : S1x2048x512.Idx → F .f32) (B : S1x2048x1.Idx → F .f32) : FVec F S1x512 .f32 :=
  have v2 : FVec F S256x8x512 .f32 := shapeCast S256x8x512 (shapeCast S2048x512
    (fun j => X ((Rect.unit (s := S1x2048x512) ![0, 0, 0] S1x2048x512.size inb_S1x2048x512_S1x2048x512_0_0_0).emb j) : FVec F S1x2048x512 .f32)
    shapeCasts_S1x2048x512_S2048x512) shapeCasts_S2048x512_S256x8x512
  have v5 : FVec F S256x8x1 .f32 := shapeCast S256x8x1 (shapeCast S2048x1
    (fun j => B ((Rect.unit (s := S1x2048x1) ![0, 0, 0] S1x2048x1.size inb_S1x2048x1_S1x2048x1_0_0_0).emb j) : FVec F S1x2048x1 .f32)
    shapeCasts_S1x2048x1_S2048x1) shapeCasts_S2048x1_S256x8x1
  have v11 : FVec F S8x512 .f32 := multiReduction .maximumf [0] S8x512 (addf v2 (broadcastTo S256x8x512 v5 broadcasts_S256x8x1_S256x8x512)) 0xFF800000#32
    reduces_S256x8x512_S8x512 (.inl rfl) rfl
  have v15 : FVec F S512 .f32 := multiReduction .maximumf [0] S512 v11 0xFF800000#32 reduces_S8x512_S512 (.inl rfl) rfl
  shapeCast S1x512 v15 shapeCasts_S512_S1x512

/-- The result block with the row of a grid point stored, both halves. -/
def putRow (i : grid1.Coords) (Y : S4x1024.Idx → F .f32) (r₁ r₂ : S1x512.Idx → F .f32) : S4x1024.Idx → F .f32 :=
  (Rect.unit (s := S4x1024) (k1_off2 i) S1x512.size (k1_off2_inb i)).overlay
    ((Rect.unit (s := S4x1024) (k1_off1 i) S1x512.size (k1_off1_inb i)).overlay Y r₁) r₂

/-- The number of tokens each batch row's mask holds. -/
def counts (M : S4x2048.Idx → BitVec 32) : IVec S4x1 32 :=
  shapeCast S4x1 (multiReductionI .add [1] S4 (shapeCast S4x2048
    (fun j => M ((Rect.unit (s := S4x2048) ![0, 0] S4x2048.size inb_S4x2048_S4x2048_0_0).emb j) : IVec S4x2048 32)
    shapeCasts_S4x2048_S4x2048) 0#32 reduces_S4x2048_S4 rfl) shapeCasts_S4_S4x1

/-- Whether a batch row's count lies below the largest. -/
def below (n : IVec S4x1 32) : IVec S4x1 1 :=
  cmpi .slt n (broadcast S4x1 (extractAt ![0, 0, 0] (shapeCast S1x1x1
    (multiReductionI .maxsi [1, 2] S1 (shapeCast S1x4x1 n shapeCasts_S4x1_S1x4x1) 2147483648#32 reduces_S1x4x1_S1 rfl) shapeCasts_S1_S1x1x1)
    inpos_S1x1x1_p0_0_0))

/-- A side's features put together, and raised to zero where the row is padded. -/
def side (lo : FVec F S4x512 .f32) (hi : FVec F S4x256 .f32) (pad : IVec S4x1 1) : FVec F S4x768 .f32 :=
  have v24 : FVec F S4x768 .f32 := concatenate S4x768 1 [⟨S4x512, shapeCast S4x512 lo shapeCasts_S4x512_S4x512⟩,
    ⟨S4x256, shapeCast S4x256 hi shapeCasts_S4x256_S4x256⟩] concatenates_S4x512_S4x256_S4x768_d1
  select (broadcastTo S4x768 (shapeCast S4x1 pad shapeCasts_S4x1_S4x1) broadcasts_S4x1_S4x768)
    (maximumf v24 (broadcast S4x768 (Scalar.ofBits .f32 0x00000000#32))) v24

/-- The dense rows. -/
def dense (P : S4x1024.Idx → F .f32) (T₁ T₂ : S4x256.Idx → F .f32) (M₁ M₂ : S4x2048.Idx → BitVec 32) : FVec F S4x1536 .f32 :=
  concatenate S4x1536 1
    [⟨S4x768, side (fun j => P ((Rect.unit (s := S4x1024) ![0, 0] S4x512.size inb_S4x1024_S4x512_0_0).emb j))
      (fun j => T₁ ((Rect.unit (s := S4x256) ![0, 0] S4x256.size inb_S4x256_S4x256_0_0).emb j)) (below (counts M₁))⟩,
     ⟨S4x768, side (fun j => P ((Rect.unit (s := S4x1024) ![0, 512] S4x512.size inb_S4x1024_S4x512_0_512).emb j))
      (fun j => T₂ ((Rect.unit (s := S4x256) ![0, 0] S4x256.size inb_S4x256_S4x256_0_0).emb j)) (below (counts M₂))⟩]
    concatenates_S4x768_S4x768_S4x1536_d1

/-- The scores before the softmax. -/
def logits (v40 : FVec F S4x1536 .f32) (W : S1536x42.Idx → F .f32) (b : S1x42.Idx → F .f32) : FVec F S4x42 .f32 :=
  addf (matmul dot_S4x1536_S1536x42_S4x42_1_0_0_1_n_n none v40
      (fun j => W ((Rect.unit (s := S1536x42) ![0, 0] S1536x42.size inb_S1536x42_S1536x42_0_0).emb j) : FVec F S1536x42 .f32) (constant S4x42 .f32 0x00000000#32))
    (broadcastTo S4x42 (shapeCast S1x42
      (fun j => b ((Rect.unit (s := S1x42) ![0, 0] S1x42.size inb_S1x42_S1x42_0_0).emb j) : FVec F S1x42 .f32) shapeCasts_S1x42_S1x42) broadcasts_S1x42_S4x42)

/-- The softmax over the classes. -/
def soft (v46 : FVec F S4x42 .f32) : FVec F S4x42 .f32 :=
  have v47 : FVec F S4 .f32 := multiReduction .maximumf [1] S4 v46 0xFF800000#32 reduces_S4x42_S4 (.inl rfl) rfl
  have v51 : FVec F S4x42 .f32 := exp (subf v46 (broadcastTo S4x42 (shapeCast S4x1 v47 shapeCasts_S4_S4x1) broadcasts_S4x1_S4x42))
  have v52 : FVec F S4 .f32 := multiReduction .add [1] S4 v51 0x00000000#32 reduces_S4x42_S4 (.inl rfl) rfl
  divf v51 (broadcastTo S4x42 (shapeCast S4x1 v52 shapeCasts_S4_S4x1) broadcasts_S4x1_S4x42)

/-- The head's result. -/
def headOut (P : S4x1024.Idx → F .f32) (T₁ T₂ : S4x256.Idx → F .f32) (M₁ M₂ : S4x2048.Idx → BitVec 32) (W : S1536x42.Idx → F .f32)
    (b : S1x42.Idx → F .f32) : FVec F S4x42 .f32 :=
  soft (logits (dense P T₁ T₂ M₁ M₂) W b)

/-! ## The bodies -/

section
variable (d : Dev nD)

/-- The pooling body at a grid point. -/
theorem pool_wp (i : grid1.Coords)
    (a₁ : Memref sig .tc .vmem S1x2048x512 .f32) (h₁ : a₁.IsWhole) (a₂ : Memref sig .tc .vmem S1x2048x1 .f32) (h₂ : a₂.IsWhole)
    (a₃ : Memref sig .tc .vmem S1x2048x1 .f32) (h₃ : a₃.IsWhole) (a₄ : Memref sig .tc .vmem S4x1024 .f32) (h₄ : a₄.IsWhole)
    (X : S1x2048x512.Idx → F .f32) (B₁ B₂ : S1x2048x1.Idx → F .f32) (Y : S4x1024.Idx → F .f32) :
    iprop(Has (T d) a₁ X ∗ Has (T d) a₂ B₁ ∗ Has (T d) a₃ B₂ ∗ Has (T d) a₄ Y)
      ⊢ (wp frame (wpE (defs₀ (F := F)) 𝒱₀ (T d) none) Set.univ (cc1__tc_body (F := F) i a₁ h₁ a₂ h₂ a₃ h₃ a₄ h₄)
          fun _ => iprop(Has (T d) a₁ X ∗ Has (T d) a₂ B₁ ∗ Has (T d) a₃ B₂ ∗ Has (T d) a₄ (putRow i Y (poolRow X B₁) (poolRow X B₂))) : sProp 𝕄) := by
  iintro ⟨H1, H2, H3, H4⟩
  simp only [cc1__tc_body]
  simp only [wp_bind, wp_pure, Prog.bind_lift]
  iapply (Own.load (c := T d)) $$ H1; iintro H1
  simp only [wp_bind, wp_pure, Prog.bind_lift]
  iapply (Own.load (c := T d)) $$ H2; iintro H2
  iapply (Own.load (c := T d)) $$ H3; iintro H3
  iapply (Own.load (c := T d)) $$ H4; iintro H4
  iapply (Own.store (c := T d)) $$ H4; iintro H4
  iapply (Own.load (c := T d)) $$ H4; iintro H4
  iapply (Own.store (c := T d)) $$ H4; iintro H4
  simp only [wp_pure]
  imodintro
  isplitl [H1]; · iexact H1
  isplitl [H2]; · iexact H2
  isplitl [H3]; · iexact H3
  iexact H4

/-- The head's body. -/
theorem head_wp
    (a₀ : Memref sig .tc .vmem S4x1024 .f32) (h₀ : a₀.IsWhole) (a₁ : Memref sig .tc .vmem S4x256 .f32) (h₁ : a₁.IsWhole)
    (a₂ : Memref sig .tc .vmem S4x256 .f32) (h₂ : a₂.IsWhole) (a₃ : Memref sig .tc .vmem S4x2048 .i32) (h₃ : a₃.IsWhole)
    (a₄ : Memref sig .tc .vmem S4x2048 .i32) (h₄ : a₄.IsWhole) (a₅ : Memref sig .tc .vmem S1536x42 .f32) (h₅ : a₅.IsWhole)
    (a₆ : Memref sig .tc .vmem S1x42 .f32) (h₆ : a₆.IsWhole) (a₇ : Memref sig .tc .vmem S4x42 .f32) (h₇ : a₇.IsWhole)
    (P : S4x1024.Idx → F .f32) (T₁ T₂ : S4x256.Idx → F .f32) (M₁ M₂ : S4x2048.Idx → BitVec 32) (W : S1536x42.Idx → F .f32)
    (b : S1x42.Idx → F .f32) (Y : S4x42.Idx → F .f32) :
    iprop(Has (T d) a₀ P ∗ Has (T d) a₁ T₁ ∗ Has (T d) a₂ T₂ ∗ Has (T d) a₃ M₁ ∗ Has (T d) a₄ M₂ ∗ Has (T d) a₅ W ∗ Has (T d) a₆ b ∗ Has (T d) a₇ Y)
      ⊢ (wp frame (wpE (defs₀ (F := F)) 𝒱₀ (T d) none) Set.univ (cc2__head_body (F := F) a₀ h₀ a₁ h₁ a₂ h₂ a₃ h₃ a₄ h₄ a₅ h₅ a₆ h₆ a₇ h₇)
          fun _ => iprop(Has (T d) a₀ P ∗ Has (T d) a₁ T₁ ∗ Has (T d) a₂ T₂ ∗ Has (T d) a₃ M₁ ∗ Has (T d) a₄ M₂ ∗ Has (T d) a₅ W ∗ Has (T d) a₆ b
            ∗ Has (T d) a₇ ((Rect.unit (s := S4x42) ![0, 0] S4x42.size inb_S4x42_S4x42_0_0).overlay Y (headOut P T₁ T₂ M₁ M₂ W b))) : sProp 𝕄) := by
  iintro ⟨H0, H1, H2, H3, H4, H5, H6, H7⟩
  simp only [cc2__head_body, k2_part1]
  simp only [wp_bind, wp_pure, Prog.bind_lift]
  iapply (Own.load (c := T d)) $$ H3; iintro H3
  simp only [wp_bind, wp_pure, Prog.bind_lift]
  iapply (Own.load (c := T d)) $$ H4; iintro H4
  iapply (Own.load (c := T d)) $$ H0; iintro H0
  iapply (Own.load (c := T d)) $$ H1; iintro H1
  iapply (Own.load (c := T d)) $$ H0; iintro H0
  iapply (Own.load (c := T d)) $$ H2; iintro H2
  simp only [wp_bind, wp_pure, Prog.bind_lift]
  imodintro
  iapply (Own.load (c := T d)) $$ H5; iintro H5
  iapply (Own.load (c := T d)) $$ H6; iintro H6
  iapply (Own.load (c := T d)) $$ H7; iintro H7
  iapply (Own.store (c := T d)) $$ H7; iintro H7
  simp only [wp_pure]
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end

end Cert.Proof.Tc
-- ==== Proof.Region.lean ====
/-
  A kernel region of the main program whose body leaves in some windows contents that a predicate describes, and whose arrays
  are nevertheless named at its exit: entered from a set of buffers held at one valuation and left with them held at another.
-/
module

public import Idealize.ShloMosaic.Lib.Pipeline.RegionArraysF
public import Idealize.ShloMosaic.Lib.Pipeline.DatRel

@[expose] public section

noncomputable section

namespace Cert.Proof.Region

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type}
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- The data read relationally, each pipeline's marked windows held to the predicate. -/
abbrev rels : (q : P) → (c : Dev nD) → RDat τ Val Ix Name U Lvl (pin pcs a q) c := fun q c => (pdats q c).toRRel (fg q) (Rl q c)

/-- The region's record: in at `W c`, out at `W' c`. -/
def seg (S : Finset (DevRef τ sig)) (hS : arrRefs (pcs p).spec ⊆ S)
    (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = 0) (hrec : ∀ c, (pdats p c).recorded 0 = Set.univ)
    (hshare : ∀ c w, (pdats p c).share w = fullShare)
    (hin : ∀ c, scopedRest (pin pcs a p).spec c ⊢ (pdats p c).Φ 0)
    (hout : ∀ c, (pdats p c).Φ (Fin.last (pin pcs a p).N) ⊢ scopedRest (pin pcs a p).spec c)
    (b : Dev nD → Lvl) (hcut : LevelCut pcs a ι L lv p (fun _ => 0) b)
    (W W' : Dev nD → Valuation τ sig Val)
    (hA : ∀ c w, (pdats p c).A w = W c (Proc.devRef .tc (arrRef (pin pcs a p).spec w)))
    (hfin : ∀ c w B, (rels pcs a pdats fg Rl p c).ArrAt w (pin pcs a p).N B → B = W' c (Proc.devRef .tc (arrRef (pin pcs a p).spec w)))
    (hoff : ∀ c, ∀ d ∈ S \ arrRefs (pcs p).spec, W' c d = W c d) :
    RDat.RegionSeg pcs a (rels pcs a pdats fg Rl) ι defs₀ 𝒱₀ L lv p where
  win := kit.to₀.win
  block_pos := kit.to₀.block_pos
  stage_whole := kit.to₀.stage_whole
  K := PEmpty
  osem := fun k => k.elim
  ho := OwnSemFacts.none _
  hbody c := (hbody c).toRRel
  hwaits c := RDat.cellsWaits_of_cut (pin pcs a) (rels pcs a pdats fg Rl) ι p c (b c) 0 (howed c) (hcut.hι c) (hcut.hιb c) (hcut.hD c)
  pre c := iprop(StableHlo.held (c.tc : Thread nD τ) S (W c) ∗ ∃ Wd, owes (c : Thread nD τ) 0 Wd)
  post c := iprop(StableHlo.held (c.tc : Thread nD τ) S (W' c) ∗ ∃ Wd, owes (c : Thread nD τ) 0 Wd)
  X c := iprop(emp)
  Y c := iprop(emp)
  Z c := StableHlo.held (c.tc : Thread nD τ) (S \ arrRefs (pcs p).spec) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [prefHeld_of_none _ hK, arrays_held pcs a pdats p kit c (hshare c) (pdats p c).A (W c) (hA c),
      StableHlo.held_sub_split (c.tc : Thread nD τ) hS (W c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ scopedRest (pin pcs a p).spec c from by iintro ⟨-, -, Hr⟩; iexact Hr).trans (hin c)
  hout c := (hout c).trans (by
    iintro Hr
    isplitr; · iempintro
    isplitr
    · rw [ownSems0_none]; iempintro
    iexact Hr)
  hexit c := by
    show iprop((rels pcs a pdats fg Rl p c).arraysAt (pin pcs a p).N ∗ (pdats p c).owesAt ι (Fin.last (pin pcs a p).N) ∗ _ ∗ _) ⊢ _
    have hAt : ((rels pcs a pdats fg Rl p c).arraysAt (pin pcs a p).N : sProp 𝕄) ⊢ (pdats p c).arrays fun w => W' c (Proc.devRef .tc (arrRef (pin pcs a p).spec w)) := by
      unfold RDat.arraysAt Dat.arrays
      refine BI.bigSep_mono fun w _ => ?_
      show (iprop(∃ B, ⌜(rels pcs a pdats fg Rl p c).ArrAt w (pin pcs a p).N B⌝ ∗ ((pin pcs a p).win w).arr.view.loc (c.tc : Thread nD τ) ↦[((pin pcs a p).win w).arr.view.set]{(pdats p c).share w} B) : sProp 𝕄) ⊢ _
      iintro ⟨%B, %hB, H⟩
      obtain rfl := hfin c w B hB
      iexact H
    iintro ⟨Ha, HO, -, Hr⟩
    ihave Ha := hAt $$ Ha
    imodintro
    rw [StableHlo.held_sub_split (c.tc : Thread nD τ) hS (W' c), StableHlo.held_congr (c.tc : Thread nD τ) (S := S \ arrRefs (pcs p).spec) (hoff c),
      ← arrays_held pcs a pdats p kit c (hshare c) (fun w => W' c (Proc.devRef .tc (arrRef (pin pcs a p).spec w))) (W' c) (fun _ => rfl)]
    isplitl [Ha Hr]
    · isplitl [Ha]; · iexact Ha
      iexact Hr
    unfold Dat.owesAt owesWithin
    rw [howed c (Fin.last _)]
    icases HO with ⟨%Wd, -, HO⟩; iexists Wd; iexact HO

end Cert.Proof.Region

end
-- ==== Proof.Pool.lean ====
/-
  The pooling call's pipeline: four grid points, one per batch row, each of which stores its row of the result's one block.
-/
module

public import proofs.«01_k».proof.Proof.TcBody
public import proofs.«01_k».proof.Proof.Region
public import proofs.«01_k».proof.Proof.Gen.KernelIdeal.Launch
public import proofs.«01_k».proof.Proof.Gen.KernelIdeal.Points
public import Idealize.ShloMosaic.Lib.ValueIdxCore

@[expose] public section

noncomputable section

namespace Cert.Proof.Tc

open Cert.KernelIdeal Cert.KernelIdeal.Gen
open Idealize.ShloMosaic Idealize.ShloMosaic.Pipeline
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Own (Has)
open Cert.Proof.Chunk (UU 𝒱₀)
open TcCoe
open ValueIdx

variable {F : FTy → Type} [FloatOps F]

local notation "𝕄" => MT nD τ sig (HIx 1) (Elt F) ℕ UU ℕ

/-- The features' block of a batch row. -/
def xRow (A : S4x2048x768.Idx → F .f32) (b : Fin 4) : S1x2048x512.Idx → F .f32 :=
  fun j => A (ix3 b (j 1) ((j 2).castLE (by decide : 512 ≤ 768)))
/-- The biases' block of a batch row. -/
def bRow (B : S4x2048x1.Idx → F .f32) (b : Fin 4) : S1x2048x1.Idx → F .f32 :=
  fun j => B (ix3 b (j 1) (j 2))

/-- The pooled features, the two masks' side by side. -/
def poolOut (A : S4x2048x768.Idx → F .f32) (B₁ B₂ : S4x2048x1.Idx → F .f32) : S4x1024.Idx → F .f32 := fun j =>
  if h : (j 1).val < 512 then poolRow (xRow A (j 0)) (bRow B₁ (j 0)) (ix2 0 ⟨(j 1).val, h⟩)
  else poolRow (xRow A (j 0)) (bRow B₂ (j 0)) (ix2 0 ⟨(j 1).val - 512, by have := (j 1).isLt; simp at this; omega⟩)

abbrev arg0 (W : Valuation τ sig (Elt F)) : S4x2048x768.Idx → F .f32 := W (Proc.devRef .tc main_arg0)
abbrev bias1 (W : Valuation τ sig (Elt F)) : S4x2048x1.Idx → F .f32 := W (Proc.devRef .tc main_v3)
abbrev bias2 (W : Valuation τ sig (Elt F)) : S4x2048x1.Idx → F .f32 := W (Proc.devRef .tc main_v5)

/-- A grid point's batch row. -/
abbrev row (t : Fin cfg1.N) : Fin 4 := grid1.coords t 0

theorem row_val (t : Fin cfg1.N) : (row t).val = t.val := by
  rcases fin_N1 t with rfl | rfl | rfl | rfl <;> decide

/-- The pipeline's data: what the buffers hold at entry, and what the body leaves in the operands' blocks. -/
def dat1 (W : Valuation τ sig (Elt F)) (c : Dev nD) : Dat τ (Elt F) (HIx 1) ℕ UU ℕ cfg1 c where
  A w := W (Proc.devRef .tc (arrRef spec1 w))
  after w t := match w with
    | ⟨0, _⟩ => xRow (arg0 W) (row t)
    | ⟨1, _⟩ => bRow (bias1 W) (row t)
    | ⟨2, _⟩ => bRow (bias2 W) (row t)
    | ⟨3, _⟩ => poolOut (arg0 W) (bias1 W) (bias2 W)
    | ⟨_ + 4, h⟩ => absurd h (Nat.not_lt.2 (Nat.le_add_left _ _))
  Φ _ := scopedRest spec1 c
  q _ := fullShare
  owed _ := 0

/-- The window whose contents a predicate describes: the result's. -/
def fg1 : Fin cfg1.W → Bool := fun w => w = 3
/-- What it holds after a grid point: the rows up to it. -/
def Rl1 (W : Valuation τ sig (Elt F)) (w : Fin cfg1.W) (t : Fin cfg1.N) (X : (cfg1.win w).block.Idx → Elt F (cfg1.win w).elt) : Prop :=
  match w, X with
  | ⟨3, _⟩, X => ∀ j : S4x1024.Idx, (j 0).val ≤ t.val → X j = poolOut (arg0 W) (bias1 W) (bias2 W) j
  | _, _ => True

theorem before1_0 (W : Valuation τ sig (Elt F)) (c : Dev nD) (t : Fin cfg1.N) (d) : (dat1 W c).before 0 t d = xRow (arg0 W) (row t) := by
  unfold Dat.before Dat.fetched
  rw [if_pos (fetch1_0 t)]
  funext j
  have hm : (cfg1.win 0).moved (cfg1.grid.coords t) j = true := by
    rw [Window.moved_iff]
    have hs : ∀ a, (cfg1.win 0).xsize (cfg1.grid.coords t) a = (cfg1.win 0).size a := by
      rcases fin_N1 t with rfl | rfl | rfl | rfl <;> decide
    intro a; rw [hs a]; exact (j a).isLt
  unfold Window.fill
  rw [dif_pos hm]
  show (arg0 W) _ = (arg0 W) _
  congr 1
  funext a
  apply Fin.ext
  have h0 : (j 0).val = 0 := by have := (j 0).isLt; simpa using this
  have ho : ∀ a, (cfg1.win 0).kind.off ((cfg1.win 0).index t a) ((cfg1.win 0).size a) = if a.val = 0 then (row t).val else 0 := by
    rcases fin_N1 t with rfl | rfl | rfl | rfl <;> decide
  match a with
  | ⟨0, h⟩ =>
    show (cfg1.win 0).kind.off ((cfg1.win 0).index t ⟨0, h⟩) ((cfg1.win 0).size ⟨0, h⟩) + 1 * (j 0).val = (row t).val
    rw [ho, h0]; simp
  | ⟨1, h⟩ =>
    show (cfg1.win 0).kind.off ((cfg1.win 0).index t ⟨1, h⟩) ((cfg1.win 0).size ⟨1, h⟩) + 1 * (j 1).val = (j 1).val
    rw [ho]; simp
  | ⟨2, h⟩ =>
    show (cfg1.win 0).kind.off ((cfg1.win 0).index t ⟨2, h⟩) ((cfg1.win 0).size ⟨2, h⟩) + 1 * (j 2).val = (j 2).val
    rw [ho]; simp

theorem before1_1 (W : Valuation τ sig (Elt F)) (c : Dev nD) (t : Fin cfg1.N) (d) : (dat1 W c).before 1 t d = bRow (bias1 W) (row t) := by
  unfold Dat.before Dat.fetched
  rw [if_pos (fetch1_1 t)]
  funext j
  show (bias1 W) _ = (bias1 W) _
  congr 1
  funext a
  apply Fin.ext
  have h0 : (j 0).val = 0 := by have := (j 0).isLt; simpa using this
  have ho : ∀ a, (cfg1.win 1).kind.off ((cfg1.win 1).index t a) ((cfg1.win 1).size a) = if a.val = 0 then (row t).val else 0 := by
    rcases fin_N1 t with rfl | rfl | rfl | rfl <;> decide
  match a with
  | ⟨0, h⟩ =>
    show (cfg1.win 1).kind.off ((cfg1.win 1).index t ⟨0, h⟩) ((cfg1.win 1).size ⟨0, h⟩) + 1 * (j 0).val = (row t).val
    rw [ho, h0]; simp
  | ⟨1, h⟩ =>
    show (cfg1.win 1).kind.off ((cfg1.win 1).index t ⟨1, h⟩) ((cfg1.win 1).size ⟨1, h⟩) + 1 * (j 1).val = (j 1).val
    rw [ho]; simp
  | ⟨2, h⟩ =>
    show (cfg1.win 1).kind.off ((cfg1.win 1).index t ⟨2, h⟩) ((cfg1.win 1).size ⟨2, h⟩) + 1 * (j 2).val = (j 2).val
    rw [ho]; simp

theorem before1_2 (W : Valuation τ sig (Elt F)) (c : Dev nD) (t : Fin cfg1.N) (d) : (dat1 W c).before 2 t d = bRow (bias2 W) (row t) := by
  unfold Dat.before Dat.fetched
  rw [if_pos (fetch1_2 t)]
  funext j
  show (bias2 W) _ = (bias2 W) _
  congr 1
  funext a
  apply Fin.ext
  have h0 : (j 0).val = 0 := by have := (j 0).isLt; simpa using this
  have ho : ∀ a, (cfg1.win 2).kind.off ((cfg1.win 2).index t a) ((cfg1.win 2).size a) = if a.val = 0 then (row t).val else 0 := by
    rcases fin_N1 t with rfl | rfl | rfl | rfl <;> decide
  match a with
  | ⟨0, h⟩ =>
    show (cfg1.win 2).kind.off ((cfg1.win 2).index t ⟨0, h⟩) ((cfg1.win 2).size ⟨0, h⟩) + 1 * (j 0).val = (row t).val
    rw [ho, h0]; simp
  | ⟨1, h⟩ =>
    show (cfg1.win 2).kind.off ((cfg1.win 2).index t ⟨1, h⟩) ((cfg1.win 2).size ⟨1, h⟩) + 1 * (j 1).val = (j 1).val
    rw [ho]; simp
  | ⟨2, h⟩ =>
    show (cfg1.win 2).kind.off ((cfg1.win 2).index t ⟨2, h⟩) ((cfg1.win 2).size ⟨2, h⟩) + 1 * (j 2).val = (j 2).val
    rw [ho]; simp

theorem off1_eq (i : grid1.Coords) : k1_off1 i = ![(i 0).val, 0] := by decide +kernel +revert
theorem off2_eq (i : grid1.Coords) : k1_off2 i = ![(i 0).val, 512] := by decide +kernel +revert

/-- A stored row at one of its elements, and the contents elsewhere. -/
theorem overlay_row (off : Fin 2 → ℕ) (inb : ∀ a, off a + S1x512.size a ≤ S4x1024.size a) (Y : S4x1024.Idx → F .f32)
    (r : S1x512.Idx → F .f32) (j : S4x1024.Idx) :
    (Rect.unit (s := S4x1024) off S1x512.size inb).overlay Y r j =
      if h : (j 0).val = off 0 ∧ off 1 ≤ (j 1).val ∧ (j 1).val < off 1 + 512 then r (ix2 0 ⟨(j 1).val - off 1, by omega⟩) else Y j := by
  split
  · next h =>
    have he : (Rect.unit (s := S4x1024) off S1x512.size inb).emb (ix2 0 ⟨(j 1).val - off 1, by omega⟩ : S1x512.Idx) = j := by
      funext a; apply Fin.ext
      match a with
      | ⟨0, _⟩ => show off 0 + 1 * 0 = (j 0).val; omega
      | ⟨1, _⟩ => show off 1 + 1 * ((j 1).val - off 1) = (j 1).val; omega
    conv_lhs => rw [← he]
    exact Rect.overlay_emb _ _ _ _
  · next h =>
    refine Rect.overlay_of_not_mem _ _ _ fun hm => h ?_
    rw [Rect.mem_set_unit] at hm
    have h0 := hm 0
    have h1 := hm 1
    have e0 : S1x512.size 0 = 1 := rfl
    have e1 : S1x512.size 1 = 512 := rfl
    rw [e0] at h0; rw [e1] at h1
    omega

/-- Row `t` of the result's block after the body, and the rows before it. -/
theorem putRow_apply (i : grid1.Coords) (Y : S4x1024.Idx → F .f32) (r₁ r₂ : S1x512.Idx → F .f32) (j : S4x1024.Idx) :
    putRow i Y r₁ r₂ j = if (j 0).val = (i 0).val then
      (if h : (j 1).val < 512 then r₁ (ix2 0 ⟨(j 1).val, h⟩) else r₂ (ix2 0 ⟨(j 1).val - 512, by have := (j 1).isLt; simp at this; omega⟩)) else Y j := by
  have a0 : k1_off1 i 0 = (i 0).val := by rw [off1_eq]; rfl
  have a1 : k1_off1 i 1 = 0 := by rw [off1_eq]; rfl
  have b0 : k1_off2 i 0 = (i 0).val := by rw [off2_eq]; rfl
  have b1 : k1_off2 i 1 = 512 := by rw [off2_eq]; rfl
  have hj : (j 1).val < 1024 := (j 1).isLt
  unfold putRow
  rw [overlay_row, overlay_row]
  simp only [a0, a1, b0, b1]
  by_cases h : (j 0).val = (i 0).val
  · by_cases h5 : (j 1).val < 512
    · rw [dif_neg (by omega), dif_pos (by omega), if_pos h, dif_pos h5]; rfl
    · rw [dif_pos (by omega), if_pos h, dif_neg h5]
  · rw [dif_neg (by omega), dif_neg (by omega), if_neg h]

theorem finds1 (W : Valuation τ sig (Elt F)) (c : Dev nD) (t : Fin cfg1.N) (Y : S4x1024.Idx → F .f32)
    (h : ((dat1 W c).toRRel fg1 (Rl1 W)).Finds 3 t Y) :
    ∀ j : S4x1024.Idx, (j 0).val < t.val → Y j = poolOut (arg0 W) (bias1 W) (bias2 W) j := by
  intro j hj
  have hf : (cfg1.win 3).fetch t = false := by rcases fin_N1 t with rfl | rfl | rfl | rfl <;> decide
  have hN : t.val < 4 := by exact Nat.lt_of_lt_of_eq t.isLt N_1
  rcases (((dat1 W c).toRRel fg1 (Rl1 W)).finds_of_pos hf (by omega) Y).1 h with h' | h'
  · have := (flush1_3 _).1 h'
    simp at this; omega
  · exact (Dat.toRRel_leaves _ (by rfl) h') j (by show (j 0).val ≤ t.val - 1; omega)

theorem body1 (W : Valuation τ sig (Elt F)) (c : Dev nD) :
    BodyObligationRel (dat1 W c) (defs₀ (F := F)) 𝒱₀ (none : HIx 1) Set.univ fg1 (Rl1 W) := fun t => by
  rw [bigSep_W1, bigSep_W1]
  show iprop((dat1 W c).Φ t.castSucc ∗ (dat1 W c).owesAt none t.castSucc
      ∗ (∃ d, owns (c : Thread nD τ) (st1_0 t) fullShare ((dat1 W c).before 0 t d))
      ∗ (∃ d, owns (c : Thread nD τ) (st1_1 t) fullShare ((dat1 W c).before 1 t d))
      ∗ (∃ d, owns (c : Thread nD τ) (st1_2 t) fullShare ((dat1 W c).before 2 t d))
      ∗ (∃ Y, ⌜((dat1 W c).toRRel fg1 (Rl1 W)).Finds 3 t Y⌝ ∗ owns (c : Thread nD τ) (st1_3 t) fullShare Y))
    ⊢ wp frame (wpE (defs₀ (F := F)) 𝒱₀ c none) Set.univ (bodyAt1 (F := F) t) fun _ =>
      iprop((dat1 W c).Φ t.castSucc ∗ (dat1 W c).owesAt none t.castSucc
      ∗ (∃ d, owns (c : Thread nD τ) (st1_0 t) fullShare ((cfg1.win 0).fill (cfg1.grid.coords t) d ((cfg1.win 0).cut (cfg1.grid.coords t) (xRow (arg0 W) (row t)))))
      ∗ owns (c : Thread nD τ) (st1_1 t) fullShare (bRow (bias1 W) (row t))
      ∗ owns (c : Thread nD τ) (st1_2 t) fullShare (bRow (bias2 W) (row t))
      ∗ (∃ X, ⌜Rl1 W 3 t X⌝ ∗ owns (c : Thread nD τ) (st1_3 t) fullShare X))
  simp only [before1_0, before1_1, before1_2]
  iintro ⟨HΦ, HO, ⟨%d0, H0⟩, ⟨%d1, H1⟩, ⟨%d2, H2⟩, ⟨%Y, %hY, H3⟩⟩
  iapply (wp_wand_r frame (wpE (defs₀ (F := F)) 𝒱₀ (c : Thread nD τ) none) Set.univ)
  isplitl [H0 H1 H2 H3]
  · iapply (pool_wp c (grid1.coords t) (st1_0 t) _ (st1_1 t) _ (st1_2 t) _ (st1_3 t) _ (xRow (arg0 W) (row t)) (bRow (bias1 W) (row t)) (bRow (bias2 W) (row t)) Y)
    unfold Has
    unfold owns
    isplitl [H0]; · iexact H0
    isplitl [H1]; · iexact H1
    isplitl [H2]; · iexact H2
    iexact H3
  iintro %_ ⟨H0, H1, H2, H3⟩
  isplitl [HΦ]; · iexact HΦ
  isplitl [HO]; · iexact HO
  isplitl [H0]
  · iexists (xRow (arg0 W) (row t))
    rw [Window.fill_cut]
    unfold owns Has; iexact H0
  isplitl [H1]; · unfold owns Has; iexact H1
  isplitl [H2]; · unfold owns Has; iexact H2
  iexists _
  isplitr
  swap
  · unfold owns Has; iexact H3
  ipureintro
  intro j hj
  rw [putRow_apply]
  split
  · next h =>
    have hr : j 0 = row t := Fin.ext h
    unfold poolOut; rw [hr]
  · next h =>
    refine finds1 W c t Y hY j ?_
    have := row_val t
    have h' : (j 0).val ≠ (row t).val := h
    omega

/-- The valuation at the region's exit. -/
def out1 (W : Valuation τ sig (Elt F)) : Valuation τ sig (Elt F) :=
  Function.update W (Proc.devRef .tc main_v7) (poolOut (arg0 W) (bias1 W) (bias2 W))

theorem out1_ne (W : Valuation τ sig (Elt F)) (r : Ref sig .tc) (h : (Proc.devRef .tc r : DevRef τ sig) ≠ Proc.devRef .tc main_v7) :
    out1 W (Proc.devRef .tc r) = W (Proc.devRef .tc r) := Function.update_of_ne h _ _
theorem out1_self (W : Valuation τ sig (Elt F)) : out1 W (Proc.devRef .tc main_v7) = poolOut (arg0 W) (bias1 W) (bias2 W) :=
  Function.update_self _ _ _

theorem fin1 (W : Valuation τ sig (Elt F)) (c : Dev nD) (w : Fin cfg1.W) (B : Buf (Elt F) ((cfg1.win w).arr.view.loc (c : Thread nD τ)))
    (h : ((dat1 W c).toRRel fg1 (Rl1 W)).ArrAt w cfg1.N B) : B = out1 W (Proc.devRef .tc (arrRef spec1 w)) := by
  match w, B, h with
  | ⟨0, _⟩, B, h =>
    rw [RDat.ArrAt_in _ _ rfl] at h
    rw [h]; exact (out1_ne W main_arg0 (by decide)).symm
  | ⟨1, _⟩, B, h =>
    rw [RDat.ArrAt_in _ _ rfl] at h
    rw [h]; exact (out1_ne W main_v3 (by decide)).symm
  | ⟨2, _⟩, B, h =>
    rw [RDat.ArrAt_in _ _ rfl] at h
    rw [h]; exact (out1_ne W main_v5 (by decide)).symm
  | ⟨3, _⟩, B, h =>
    have hN : cfg1.N = (t1_3 : Fin cfg1.N).val + 1 := N_1
    rw [hN, RDat.ArrAt_succ, if_pos ((flush1_3 t1_3).2 (by decide))] at h
    obtain ⟨G, X, -, hX, rfl⟩ := h
    have hR := Dat.toRRel_leaves _ (by rfl) hX
    refine Eq.trans ?_ (out1_self W).symm
    have hr := View.read_write_univ (Val := Elt F) (v := ((cfg1.win 3).blk t1_3).view) G ((cfg1.win 3).cut (cfg1.grid.coords t1_3) X)
    funext j
    have hrj := congrFun hr j
    have he : ((cfg1.win 3).blk t1_3).view.emb j = j := by
      funext a; apply Fin.ext
      have ho : ∀ a, (cfg1.win 3).kind.off ((cfg1.win 3).index t1_3 a) ((cfg1.win 3).size a) = 0 := by decide
      show (cfg1.win 3).kind.off ((cfg1.win 3).index t1_3 a) ((cfg1.win 3).size a) + 1 * (j a).val = (j a).val
      rw [ho]; simp
    refine Eq.trans ?_ (hrj.trans ?_)
    · show _ = (View.write (Elt F) ((cfg1.win 3).blk t1_3).view G ((cfg1.win 3).cut (cfg1.grid.coords t1_3) X) Finset.univ) (((cfg1.win 3).blk t1_3).view.emb j)
      rw [he]
    · exact hR j (by have : (j 0).val < 4 := (j 0).isLt
                     show (j 0).val ≤ 3; omega)

end Cert.Proof.Tc
-- ==== Proof.Head.lean ====
/-
  The head's pipeline: one grid point, every window a whole array.
-/
module

public import proofs.«01_k».proof.Proof.Pool

@[expose] public section

noncomputable section

namespace Cert.Proof.Tc

open Cert.KernelIdeal Cert.KernelIdeal.Gen
open Idealize.ShloMosaic Idealize.ShloMosaic.Pipeline
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Own (Has)
open Cert.Proof.Chunk (UU 𝒱₀)
open TcCoe
open ValueIdx

variable {F : FTy → Type} [FloatOps F]

local notation "𝕄" => MT nD τ sig (HIx 1) (Elt F) ℕ UU ℕ

abbrev pool (W : Valuation τ sig (Elt F)) : S4x1024.Idx → F .f32 := W (Proc.devRef .tc main_v7)
abbrev tail1 (W : Valuation τ sig (Elt F)) : S4x256.Idx → F .f32 := W (Proc.devRef .tc main_v6_0)
abbrev tail2 (W : Valuation τ sig (Elt F)) : S4x256.Idx → F .f32 := W (Proc.devRef .tc main_v6_1)
abbrev mask1 (W : Valuation τ sig (Elt F)) : S4x2048.Idx → BitVec 32 := W (Proc.devRef .tc main_v0)
abbrev mask2 (W : Valuation τ sig (Elt F)) : S4x2048.Idx → BitVec 32 := W (Proc.devRef .tc main_v1)
abbrev wts (W : Valuation τ sig (Elt F)) : S1536x42.Idx → F .f32 := W (Proc.devRef .tc main_arg3)
abbrev bs (W : Valuation τ sig (Elt F)) : S1x42.Idx → F .f32 := W (Proc.devRef .tc main_v8)

/-- The head's result from the arrays at entry. -/
def headOf (W : Valuation τ sig (Elt F)) : S4x42.Idx → F .f32 :=
  headOut (pool W) (tail1 W) (tail2 W) (mask1 W) (mask2 W) (wts W) (bs W)

/-- The pipeline's data. -/
def dat2 (W : Valuation τ sig (Elt F)) (c : Dev nD) : Dat τ (Elt F) (HIx 1) ℕ UU ℕ cfg2 c where
  A w := W (Proc.devRef .tc (arrRef spec2 w))
  after w t := match w with
    | ⟨0, _⟩ => pool W
    | ⟨1, _⟩ => tail1 W
    | ⟨2, _⟩ => tail2 W
    | ⟨3, _⟩ => mask1 W
    | ⟨4, _⟩ => mask2 W
    | ⟨5, _⟩ => wts W
    | ⟨6, _⟩ => bs W
    | ⟨7, _⟩ => headOf W
    | ⟨_ + 8, h⟩ => absurd h (Nat.not_lt.2 (Nat.le_add_left _ _))
  Φ _ := scopedRest spec2 c
  q _ := fullShare
  owed _ := 0

/-- The window whose contents a predicate describes: the result's. -/
def fg2 : Fin cfg2.W → Bool := fun w => w = 7
/-- What it holds after the grid point. -/
def Rl2 (W : Valuation τ sig (Elt F)) (w : Fin cfg2.W) (_ : Fin cfg2.N) (X : (cfg2.win w).block.Idx → Elt F (cfg2.win w).elt) : Prop :=
  match w, X with
  | ⟨7, _⟩, X => X = headOf W
  | _, _ => True

/-- An array read through offsets of zero is the array. -/
theorem whole_apply {s : Shape} {α : Type} (x : s.Idx → α) (o : Fin s.rank → ℕ) (ho : ∀ a, o a = 0) (e : s.Idx → s.Idx)
    (he : ∀ j a, (e j a).val = o a + 1 * (j a).val) : (fun j => x (e j)) = x := by
  funext j
  refine congrArg x (funext fun a => Fin.ext ?_)
  rw [he, ho, Nat.zero_add, Nat.one_mul]

/-! A window of the head is its whole array. -/

theorem before2_0 (W : Valuation τ sig (Elt F)) (c : Dev nD) (t : Fin cfg2.N) (d) : (dat2 W c).before 0 t d = pool W := by
  unfold Dat.before Dat.fetched
  rw [if_pos (fetch2_0 t)]
  obtain rfl := fin_N2 t
  exact whole_apply (pool W) (fun a => (cfg2.win 0).kind.off ((cfg2.win 0).index t2_0 a) ((cfg2.win 0).size a)) (by decide) _ fun _ _ => rfl

theorem before2_1 (W : Valuation τ sig (Elt F)) (c : Dev nD) (t : Fin cfg2.N) (d) : (dat2 W c).before 1 t d = tail1 W := by
  unfold Dat.before Dat.fetched
  rw [if_pos (fetch2_1 t)]
  obtain rfl := fin_N2 t
  exact whole_apply (tail1 W) (fun a => (cfg2.win 1).kind.off ((cfg2.win 1).index t2_0 a) ((cfg2.win 1).size a)) (by decide) _ fun _ _ => rfl

theorem before2_2 (W : Valuation τ sig (Elt F)) (c : Dev nD) (t : Fin cfg2.N) (d) : (dat2 W c).before 2 t d = tail2 W := by
  unfold Dat.before Dat.fetched
  rw [if_pos (fetch2_2 t)]
  obtain rfl := fin_N2 t
  exact whole_apply (tail2 W) (fun a => (cfg2.win 2).kind.off ((cfg2.win 2).index t2_0 a) ((cfg2.win 2).size a)) (by decide) _ fun _ _ => rfl

theorem before2_3 (W : Valuation τ sig (Elt F)) (c : Dev nD) (t : Fin cfg2.N) (d) : (dat2 W c).before 3 t d = mask1 W := by
  unfold Dat.before Dat.fetched
  rw [if_pos (fetch2_3 t)]
  obtain rfl := fin_N2 t
  exact whole_apply (mask1 W) (fun a => (cfg2.win 3).kind.off ((cfg2.win 3).index t2_0 a) ((cfg2.win 3).size a)) (by decide) _ fun _ _ => rfl

theorem before2_4 (W : Valuation τ sig (Elt F)) (c : Dev nD) (t : Fin cfg2.N) (d) : (dat2 W c).before 4 t d = mask2 W := by
  unfold Dat.before Dat.fetched
  rw [if_pos (fetch2_4 t)]
  obtain rfl := fin_N2 t
  exact whole_apply (mask2 W) (fun a => (cfg2.win 4).kind.off ((cfg2.win 4).index t2_0 a) ((cfg2.win 4).size a)) (by decide) _ fun _ _ => rfl

theorem before2_5 (W : Valuation τ sig (Elt F)) (c : Dev nD) (t : Fin cfg2.N) (d) : (dat2 W c).before 5 t d = wts W := by
  unfold Dat.before Dat.fetched
  rw [if_pos (fetch2_5 t)]
  obtain rfl := fin_N2 t
  exact whole_apply (wts W) (fun a => (cfg2.win 5).kind.off ((cfg2.win 5).index t2_0 a) ((cfg2.win 5).size a)) (by decide) _ fun _ _ => rfl

theorem before2_6 (W : Valuation τ sig (Elt F)) (c : Dev nD) (t : Fin cfg2.N) (d) : (dat2 W c).before 6 t d = bs W := by
  unfold Dat.before Dat.fetched
  rw [if_pos (fetch2_6 t)]
  obtain rfl := fin_N2 t
  exact whole_apply (bs W) (fun a => (cfg2.win 6).kind.off ((cfg2.win 6).index t2_0 a) ((cfg2.win 6).size a)) (by decide) _ fun _ _ => rfl

/-- The whole result block stored. -/
theorem overlay_whole (Y w : S4x42.Idx → F .f32) :
    (Rect.unit (s := S4x42) ![0, 0] S4x42.size inb_S4x42_S4x42_0_0).overlay Y w = w := by
  funext j
  have he : (Rect.unit (s := S4x42) ![0, 0] S4x42.size inb_S4x42_S4x42_0_0).emb j = j := by
    funext a; apply Fin.ext
    match a with
    | ⟨0, _⟩ => show 0 + 1 * (j 0).val = (j 0).val; omega
    | ⟨1, _⟩ => show 0 + 1 * (j 1).val = (j 1).val; omega
  conv_lhs => rw [← he]
  exact Rect.overlay_emb _ _ _ _

theorem body2 (W : Valuation τ sig (Elt F)) (c : Dev nD) :
    BodyObligationRel (dat2 W c) (defs₀ (F := F)) 𝒱₀ (none : HIx 1) Set.univ fg2 (Rl2 W) := fun t => by
  rw [bigSep_W2, bigSep_W2]
  show iprop((dat2 W c).Φ t.castSucc ∗ (dat2 W c).owesAt none t.castSucc
      ∗ (∃ d, owns (c : Thread nD τ) (st2_0 t) fullShare ((dat2 W c).before 0 t d))
      ∗ (∃ d, owns (c : Thread nD τ) (st2_1 t) fullShare ((dat2 W c).before 1 t d))
      ∗ (∃ d, owns (c : Thread nD τ) (st2_2 t) fullShare ((dat2 W c).before 2 t d))
      ∗ (∃ d, owns (c : Thread nD τ) (st2_3 t) fullShare ((dat2 W c).before 3 t d))
      ∗ (∃ d, owns (c : Thread nD τ) (st2_4 t) fullShare ((dat2 W c).before 4 t d))
      ∗ (∃ d, owns (c : Thread nD τ) (st2_5 t) fullShare ((dat2 W c).before 5 t d))
      ∗ (∃ d, owns (c : Thread nD τ) (st2_6 t) fullShare ((dat2 W c).before 6 t d))
      ∗ (∃ Y, ⌜((dat2 W c).toRRel fg2 (Rl2 W)).Finds 7 t Y⌝ ∗ owns (c : Thread nD τ) (st2_7 t) fullShare Y))
    ⊢ wp frame (wpE (defs₀ (F := F)) 𝒱₀ c none) Set.univ (bodyAt2 (F := F) t) fun _ =>
      iprop((dat2 W c).Φ t.castSucc ∗ (dat2 W c).owesAt none t.castSucc
      ∗ owns (c : Thread nD τ) (st2_0 t) fullShare (pool W)
      ∗ owns (c : Thread nD τ) (st2_1 t) fullShare (tail1 W)
      ∗ owns (c : Thread nD τ) (st2_2 t) fullShare (tail2 W)
      ∗ owns (c : Thread nD τ) (st2_3 t) fullShare (mask1 W)
      ∗ owns (c : Thread nD τ) (st2_4 t) fullShare (mask2 W)
      ∗ owns (c : Thread nD τ) (st2_5 t) fullShare (wts W)
      ∗ owns (c : Thread nD τ) (st2_6 t) fullShare (bs W)
      ∗ (∃ X, ⌜Rl2 W 7 t X⌝ ∗ owns (c : Thread nD τ) (st2_7 t) fullShare X))
  simp only [before2_0, before2_1, before2_2, before2_3, before2_4, before2_5, before2_6]
  iintro ⟨HΦ, HO, ⟨%d0, H0⟩, ⟨%d1, H1⟩, ⟨%d2, H2⟩, ⟨%d3, H3⟩, ⟨%d4, H4⟩, ⟨%d5, H5⟩, ⟨%d6, H6⟩, ⟨%Y, -, H7⟩⟩
  iapply (wp_wand_r frame (wpE (defs₀ (F := F)) 𝒱₀ (c : Thread nD τ) none) Set.univ)
  isplitl [H0 H1 H2 H3 H4 H5 H6 H7]
  · iapply (head_wp c (st2_0 t) _ (st2_1 t) _ (st2_2 t) _ (st2_3 t) _ (st2_4 t) _ (st2_5 t) _ (st2_6 t) _ (st2_7 t) _
      (pool W) (tail1 W) (tail2 W) (mask1 W) (mask2 W) (wts W) (bs W) Y)
    unfold Has
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [overlay_whole]
  iintro %_ ⟨H0, H1, H2, H3, H4, H5, H6, H7⟩
  isplitl [HΦ]; · iexact HΦ
  isplitl [HO]; · iexact HO
  isplitl [H0]; · unfold owns Has; iexact H0
  isplitl [H1]; · unfold owns Has; iexact H1
  isplitl [H2]; · unfold owns Has; iexact H2
  isplitl [H3]; · unfold owns Has; iexact H3
  isplitl [H4]; · unfold owns Has; iexact H4
  isplitl [H5]; · unfold owns Has; iexact H5
  isplitl [H6]; · unfold owns Has; iexact H6
  iexists (headOf W)
  isplitr
  swap
  · unfold owns Has; iexact H7
  ipureintro
  rfl

/-- The valuation at the region's exit. -/
def out2 (W : Valuation τ sig (Elt F)) : Valuation τ sig (Elt F) :=
  Function.update W (Proc.devRef .tc main_v9) (headOf W)

theorem out2_ne (W : Valuation τ sig (Elt F)) (r : Ref sig .tc) (h : (Proc.devRef .tc r : DevRef τ sig) ≠ Proc.devRef .tc main_v9) :
    out2 W (Proc.devRef .tc r) = W (Proc.devRef .tc r) := Function.update_of_ne h _ _
theorem out2_self (W : Valuation τ sig (Elt F)) : out2 W (Proc.devRef .tc main_v9) = headOf W :=
  Function.update_self _ _ _

theorem fin2 (W : Valuation τ sig (Elt F)) (c : Dev nD) (w : Fin cfg2.W) (B : Buf (Elt F) ((cfg2.win w).arr.view.loc (c : Thread nD τ)))
    (h : ((dat2 W c).toRRel fg2 (Rl2 W)).ArrAt w cfg2.N B) : B = out2 W (Proc.devRef .tc (arrRef spec2 w)) := by
  match w, B, h with
  | ⟨0, _⟩, B, h => rw [RDat.ArrAt_in _ _ rfl] at h; rw [h]; exact (out2_ne W main_v7 (by decide)).symm
  | ⟨1, _⟩, B, h => rw [RDat.ArrAt_in _ _ rfl] at h; rw [h]; exact (out2_ne W main_v6_0 (by decide)).symm
  | ⟨2, _⟩, B, h => rw [RDat.ArrAt_in _ _ rfl] at h; rw [h]; exact (out2_ne W main_v6_1 (by decide)).symm
  | ⟨3, _⟩, B, h => rw [RDat.ArrAt_in _ _ rfl] at h; rw [h]; exact (out2_ne W main_v0 (by decide)).symm
  | ⟨4, _⟩, B, h => rw [RDat.ArrAt_in _ _ rfl] at h; rw [h]; exact (out2_ne W main_v1 (by decide)).symm
  | ⟨5, _⟩, B, h => rw [RDat.ArrAt_in _ _ rfl] at h; rw [h]; exact (out2_ne W main_arg3 (by decide)).symm
  | ⟨6, _⟩, B, h => rw [RDat.ArrAt_in _ _ rfl] at h; rw [h]; exact (out2_ne W main_v8 (by decide)).symm
  | ⟨7, _⟩, B, h =>
    have hN : cfg2.N = (t2_0 : Fin cfg2.N).val + 1 := N_2
    rw [hN, RDat.ArrAt_succ, if_pos (flush2_7 t2_0)] at h
    obtain ⟨G, X, -, hX, rfl⟩ := h
    have hR := Dat.toRRel_leaves _ (by rfl) hX
    refine Eq.trans ?_ (out2_self W).symm
    have hr := View.read_write_univ (Val := Elt F) (v := ((cfg2.win 7).blk t2_0).view) G ((cfg2.win 7).cut (cfg2.grid.coords t2_0) X)
    funext j
    have hrj := congrFun hr j
    have he : ((cfg2.win 7).blk t2_0).view.emb j = j := by
      funext a; apply Fin.ext
      have ho : ∀ a, (cfg2.win 7).kind.off ((cfg2.win 7).index t2_0 a) ((cfg2.win 7).size a) = 0 := by decide
      show (cfg2.win 7).kind.off ((cfg2.win 7).index t2_0 a) ((cfg2.win 7).size a) + 1 * (j a).val = (j a).val
      rw [ho]; simp
    refine Eq.trans ?_ (hrj.trans ?_)
    · show _ = (View.write (Elt F) ((cfg2.win 7).blk t2_0).view G ((cfg2.win 7).cut (cfg2.grid.coords t2_0) X) Finset.univ) (((cfg2.win 7).blk t2_0).view.emb j)
      rw [he]
    · exact congrFun (show X = headOf W from hR) j

end Cert.Proof.Tc
-- ==== Proof.Main.lean ====
/-
  The whole program on one device: the operations before the calls, the SparseCore call, the pooling call's region, the
  reshaped bias, and the head's region; and what they leave in every array.
-/
module

public import proofs.«01_k».proof.Proof.Split
public import proofs.«01_k».proof.Proof.Task
public import proofs.«01_k».proof.Proof.Head

@[expose] public section

noncomputable section

namespace Cert.Proof.Launch

open Cert.KernelIdeal Cert.KernelIdeal.Gen
open Cert.Proof.Chunk
open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tc (dat1 dat2 fg1 fg2 Rl1 Rl2 body1 body2 out1 out2 fin1 fin2 out1_ne out2_ne)

variable {F : FTy → Type}

local notation "𝕄" => MT nD τ sig (HIx 1) (Elt F) ℕ UU ℕ

/-! ## The arrays of the main program -/

/-- Every array of the main program. -/
def Sall : Finset (DevRef τ sig) := (Finset.univ.filter fun b : Ref sig .tc => ¬ b.isScoped).map ⟨Proc.devRef .tc, Proc.devRef_injective _⟩

variable (m : (ℓ : Loc nD τ sig) → Buf (Elt F) ℓ) (ρ : Dev nD → PrngReg)

/-- Their contents at launch. -/
def start (d : Dev nD) : Valuation τ sig (Elt F) := fun b => m (d, b)

theorem unscoped_held (d : Dev nD) : (unscopedBufs d (fun b => m ((SparseCore.T d).loc b)) : sProp 𝕄) = held (SparseCore.T d) Sall (start m d) := by
  unfold unscopedBufs held Sall
  rw [bigSep_map]
  rfl

variable [FloatOps F]

/-! ## What each stretch of the program leaves -/

/-- The operations before the calls. -/
def ops1 : List (HloOp τ sig (Elt F)) :=
  [StableHlo.unary main_arg1 main_v0 ((extui 32 · natLt_1_32) : (⟨S4x2048, .i1⟩ : BufTy).Contents (Elt F) → (⟨S4x2048, .i32⟩ : BufTy).Contents (Elt F)),
    StableHlo.unary main_arg2 main_v1 ((extui 32 · natLt_1_32) : (⟨S4x2048, .i1⟩ : BufTy).Contents (Elt F) → (⟨S4x2048, .i32⟩ : BufTy).Contents (Elt F)),
    StableHlo.nullary main_cst (constant S_ .f32 0x00000000#32),
    StableHlo.nullary main_cst_0 (constant S_ .f32 0xFF800000#32),
    StableHlo.TRef.unary (.of main_cst) (.of main_call0_v0) id,
    StableHlo.TRef.unary (.of main_call0_v0) (.of main_call0_v1) (broadcastInDim S4x2048 ![] bcast_S_S4x2048),
    StableHlo.TRef.unary (.of main_cst_0) (.of main_call0_v2) (broadcastInDim S4x2048 ![] bcast_S_S4x2048),
    StableHlo.TRef.ternary (.of main_arg1) (.of main_call0_v1) (.of main_call0_v2) (.of main_v2) select,
    StableHlo.reshape main_v2 main_v3 (rfl : (.f32 : EltTy) = .f32) shapeCasts_S4x2048_S4x2048x1,
    StableHlo.nullary main_cst_1 (constant S_ .f32 0x00000000#32),
    StableHlo.nullary main_cst_2 (constant S_ .f32 0xFF800000#32),
    StableHlo.TRef.unary (.of main_cst_1) (.of main_call1_v0) id,
    StableHlo.TRef.unary (.of main_call1_v0) (.of main_call1_v1) (broadcastInDim S4x2048 ![] bcast_S_S4x2048),
    StableHlo.TRef.unary (.of main_cst_2) (.of main_call1_v2) (broadcastInDim S4x2048 ![] bcast_S_S4x2048),
    StableHlo.TRef.ternary (.of main_arg2) (.of main_call1_v1) (.of main_call1_v2) (.of main_v4) select,
    StableHlo.reshape main_v4 main_v5 (rfl : (.f32 : EltTy) = .f32) shapeCasts_S4x2048_S4x2048x1]

/-- The operation between the regions. -/
def ops2 : List (HloOp τ sig (Elt F)) := [StableHlo.reshape main_arg4 main_v8 (rfl : (.f32 : EltTy) = .f32) shapeCasts_S42_S1x42]

theorem main_eq (d : Dev nD) : (main (F := F) d) = (StableHlo.seq ops1 >>= fun _ => do
    (sc (F := F)).run d 0
    Prog.lift (.customCall (SparseCore.inner (Pipeline.entry 0)) ())
    (StableHlo.seq ops2 >>= fun _ => Prog.lift (.customCall (SparseCore.inner (Pipeline.entry 1)) ()))) := rfl

/-- After the operations before the calls, -/
def atCall (V : Valuation τ sig (Elt F)) : Valuation τ sig (Elt F) := StableHlo.after ops1 V
/-- after the SparseCore call, -/
def afterCall (V : Valuation τ sig (Elt F)) : Valuation τ sig (Elt F) :=
  Function.update (Function.update V (Proc.devRef .tc main_v6_0)
      (tailMax (V (Proc.devRef .tc main_arg0)) (V (Proc.devRef .tc main_v0)) : S4x256.Idx → F .f32)) (Proc.devRef .tc main_v6_1)
    (tailMax (V (Proc.devRef .tc main_arg0)) (V (Proc.devRef .tc main_v1)) : S4x256.Idx → F .f32)
/-- when the head's region is entered, -/
def atHead (V : Valuation τ sig (Elt F)) : Valuation τ sig (Elt F) := StableHlo.after ops2 (out1 (afterCall (atCall V)))
/-- and at the end. -/
def atEnd (V : Valuation τ sig (Elt F)) : Valuation τ sig (Elt F) := out2 (atHead V)

theorem afterCall_ne (V : Valuation τ sig (Elt F)) (b : DevRef τ sig) (h₀ : b ≠ Proc.devRef .tc main_v6_0) (h₁ : b ≠ Proc.devRef .tc main_v6_1) :
    afterCall V b = V b := by
  unfold afterCall; rw [Function.update_of_ne h₁, Function.update_of_ne h₀]

/-! ## The regions -/

/-- The pipelines' ghost state. -/
def EP : Emb UP (MT nD τ sig (HIx 1) (Elt F) ℕ UU ℕ) := (Emb.inl : Emb UP (UP × Counters)).trans embR
instance EP_lands : (EP (F := F)).LandsIn (upEmb : UEmb _ 𝕄) := by unfold EP; infer_instance

/-- The one admissible contents of a pipeline that prefetches nothing. -/
abbrev adm : (p : Fin 2) → (pcfgs (F := F) p).Adm := fun p => (cfgs p).toPCfg_adm

/-- The two regions' proof data. -/
def pdats (W₁ W₂ : Dev nD → Valuation τ sig (Elt F)) : (p : Fin 2) → (c : Dev nD) → Pipeline.Dat τ (Elt F) (HIx 1) ℕ UU ℕ (Pipeline.pin (pcfgs (F := F)) adm p) c
  | ⟨0, _⟩ => fun c => dat1 (W₁ c) c
  | ⟨1, _⟩ => fun c => dat2 (W₂ c) c

def flags : (p : Fin 2) → Fin (Pipeline.pin (pcfgs (F := F)) adm p).W → Bool
  | ⟨0, _⟩ => fg1
  | ⟨1, _⟩ => fg2

def leaves (W₁ W₂ : Dev nD → Valuation τ sig (Elt F)) : (p : Fin 2) → (c : Dev nD) → (w : Fin (Pipeline.pin (pcfgs (F := F)) adm p).W)
    → Fin (Pipeline.pin (pcfgs (F := F)) adm p).N
    → (((Pipeline.pin (pcfgs (F := F)) adm p).win w).block.Idx → Elt F ((Pipeline.pin (pcfgs (F := F)) adm p).win w).elt) → Prop
  | ⟨0, _⟩ => fun c => Rl1 (W₁ c)
  | ⟨1, _⟩ => fun c => Rl2 (W₂ c)

theorem hcut (p : Fin 2) : Pipeline.LevelCut (nD := nD) (pcfgs (F := F)) adm (none : HIx 1) (K (F := F)).L (K (F := F)).lev p (fun _ => 0) (fun _ => 0) where
  hι c w s := by simp [SparseCore.Cfg.L]
  hιb c w s := le_refl 0
  hD c g i h := absurd h (Nat.lt_irrefl 0)

theorem arr1_sub : (Pipeline.arrRefs spec1 : Finset (DevRef τ sig)) ⊆ Sall := by decide
theorem arr2_sub : (Pipeline.arrRefs spec2 : Finset (DevRef τ sig)) ⊆ Sall := by decide
theorem res1_mem : (Proc.devRef .tc main_v7 : DevRef τ sig) ∈ Pipeline.arrRefs spec1 := by decide
theorem res2_mem : (Proc.devRef .tc main_v9 : DevRef τ sig) ∈ Pipeline.arrRefs spec2 := by decide

variable (W₁ W₂ : Dev nD → Valuation τ sig (Elt F))

theorem share1 (c : Dev nD) (w) : (dat1 (W₁ c) c).share w = fullShare := by unfold Pipeline.Dat.share; split <;> rfl
theorem share2 (c : Dev nD) (w) : (dat2 (W₂ c) c).share w = fullShare := by unfold Pipeline.Dat.share; split <;> rfl

/-- The pooling region. -/
def seg1 : Pipeline.RDat.RegionSeg (pcfgs (F := F)) adm (Region.rels pcfgs adm (pdats W₁ W₂) flags (leaves W₁ W₂)) none defs₀ 𝒱₀ (K (F := F)).L (K (F := F)).lev 0 :=
  Region.seg (pcfgs (F := F)) adm (pdats W₁ W₂) none defs₀ 𝒱₀ (K (F := F)).L (K (F := F)).lev 0 flags (leaves W₁ W₂) Sall
    arr1_sub launch1.toP rfl (fun c => body1 (W₁ c) c) (fun _ _ => rfl) (fun _ => rfl) (share1 W₁)
    (fun c => show Pipeline.scopedRest spec1 c ⊢ (dat1 (W₁ c) c).Φ 0 from .rfl) (fun c => show (dat1 (W₁ c) c).Φ (Fin.last _) ⊢ Pipeline.scopedRest spec1 c from .rfl)
    (fun _ => 0) (hcut 0) W₁ (fun c => out1 (W₁ c)) (fun c w => rfl) (fun c w B h => fin1 (W₁ c) c w B h)
    (by intro c b hb; refine Function.update_of_ne ?_ _ _; rintro rfl; exact (Finset.mem_sdiff.mp hb).2 res1_mem)

/-- The head's region. -/
def seg2 : Pipeline.RDat.RegionSeg (pcfgs (F := F)) adm (Region.rels pcfgs adm (pdats W₁ W₂) flags (leaves W₁ W₂)) none defs₀ 𝒱₀ (K (F := F)).L (K (F := F)).lev 1 :=
  Region.seg (pcfgs (F := F)) adm (pdats W₁ W₂) none defs₀ 𝒱₀ (K (F := F)).L (K (F := F)).lev 1 flags (leaves W₁ W₂) Sall
    arr2_sub launch2.toP rfl (fun c => body2 (W₂ c) c) (fun _ _ => rfl) (fun _ => rfl) (share2 W₂)
    (fun c => show Pipeline.scopedRest spec2 c ⊢ (dat2 (W₂ c) c).Φ 0 from .rfl) (fun c => show (dat2 (W₂ c) c).Φ (Fin.last _) ⊢ Pipeline.scopedRest spec2 c from .rfl)
    (fun _ => 0) (hcut 1) W₂ (fun c => out2 (W₂ c)) (fun c w => rfl) (fun c w B h => fin2 (W₂ c) c w B h)
    (by intro c b hb; refine Function.update_of_ne ?_ _ _; rintro rfl; exact (Finset.mem_sdiff.mp hb).2 res2_mem)

theorem pre1 (d : Dev nD) : ((seg1 W₁ W₂).pre d : sProp 𝕄) = iprop(held (SparseCore.T d) Sall (W₁ d) ∗ ∃ Wd, owes (SparseCore.T d) 0 Wd) := rfl
theorem post1 (d : Dev nD) : ((seg1 W₁ W₂).post d : sProp 𝕄) = iprop(held (SparseCore.T d) Sall (out1 (W₁ d)) ∗ ∃ Wd, owes (SparseCore.T d) 0 Wd) := rfl
theorem pre2 (d : Dev nD) : ((seg2 W₁ W₂).pre d : sProp 𝕄) = iprop(held (SparseCore.T d) Sall (W₂ d) ∗ ∃ Wd, owes (SparseCore.T d) 0 Wd) := rfl
theorem post2 (d : Dev nD) : ((seg2 W₁ W₂).post d : sProp 𝕄) = iprop(held (SparseCore.T d) Sall (out2 (W₂ d)) ∗ ∃ Wd, owes (SparseCore.T d) 0 Wd) := rfl

/-- A region entered from the main program. -/
theorem region_wp [∀ e, Nonempty (Elt F e)] {p : Fin 2}
    (R : Pipeline.RDat.RegionSeg (pcfgs (F := F)) adm (Region.rels pcfgs adm (pdats W₁ W₂) flags (leaves W₁ W₂)) none defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none (.op (.customCall (Pipeline.entry p) ()) .ret) Q)
  refine BIBase.Entails.trans ?_ (Pipeline.RDat.RegionSeg.wp (pcfgs (F := F)) adm _ none cellOf_inj EP defs₀ 𝒱₀ (K (F := F)).L (K (F := F)).lev R d none
    (fun _ h => nomatch h) .ret Q)
  iintro ⟨Hk, H⟩
  isplitl [Hk]
  · iintro H
    rw [wp_ret]
    imodintro
    iapply Hk; iexact H
  iexact H

/-! ## The launch element -/

/-- The launch element: the handshakes' rounds and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's main program is dealt for its regions. -/
def G (d : Dev nD) : sProp 𝕄 := bigSep Finset.univ fun p : Fin 2 =>
  iprop(Pipeline.cellsGhost (Pipeline.pin (pcfgs (F := F)) adm) EP p d ∗ Pipeline.toksInit (Pipeline.pin (pcfgs (F := F)) adm) EP p d)

/-! ## The SparseCore call's arrays out of all of them -/

/-- The arrays of the call. -/
def Scall : Finset (DevRef τ sig) :=
  {Proc.devRef .tc main_arg0, Proc.devRef .tc main_v0, Proc.devRef .tc main_v1, Proc.devRef .tc main_v6_0, Proc.devRef .tc main_v6_1}
theorem Scall_sub : Scall ⊆ Sall := by decide

theorem call_arrays (d : Dev nD) (V : Valuation τ sig (Elt F)) :
    (held (SparseCore.T d) Scall V : sProp 𝕄)
      = iprop((xLoc d ↦{fullShare} V (Proc.devRef .tc main_arg0)) ∗ (m1Loc d ↦{fullShare} V (Proc.devRef .tc main_v0))
        ∗ (m2Loc d ↦{fullShare} V (Proc.devRef .tc main_v1)) ∗ (o1Loc d ↦{fullShare} V (Proc.devRef .tc main_v6_0))
        ∗ (o2Loc d ↦{fullShare} V (Proc.devRef .tc main_v6_1))) := by
  unfold held Scall
  rw [SparseCore.bigSep_insert' (by decide), SparseCore.bigSep_insert' (by decide), SparseCore.bigSep_insert' (by decide),
    SparseCore.bigSep_insert' (by decide), bigSep_singleton]

/-- What the call takes and brings back, from the contents at the call. -/
abbrev PV (V : Dev nD → Valuation τ sig (Elt F)) : (K (F := F)).Pay (nD := nD) (Val := Elt F) (Name := ℕ) (U := UU) :=
  P (fun d => V d (Proc.devRef .tc main_arg0)) (fun d => V d (Proc.devRef .tc main_v0)) (fun d => V d (Proc.devRef .tc main_v1))
    (fun d => V d (Proc.devRef .tc main_v6_0)) (fun d => V d (Proc.devRef .tc main_v6_1))

theorem call_wp (κ : GSem nD τ sig → ℕ) (V : Dev nD → Valuation τ sig (Elt F)) (d : Dev nD) (Q : PUnit → sProp 𝕄) :
    iprop((K (F := F)).ctx EH (PV V) κ ∗ (K (F := F)).tcSt EH d 0 ∗ held (SparseCore.T d) Sall (V d)
        ∗ ((((K (F := F)).tcSt EH d 1) ∗ held (SparseCore.T d) Sall (afterCall (V d))) -∗ Q ⟨⟩))
      ⊢ wp frame (wpE ((K (F := F)).defs (D (F := F))) 𝒱 (SparseCore.T d) none) Set.univ ((K (F := F)).run d 0) Q := by
  have hin := (parts_eq d (V d (Proc.devRef .tc main_arg0)) (V d (Proc.devRef .tc main_v0)) (V d (Proc.devRef .tc main_v1))
    (V d (Proc.devRef .tc main_v6_0)) (V d (Proc.devRef .tc main_v6_1))).1
  have hout := (parts_eq d (V d (Proc.devRef .tc main_arg0)) (V d (Proc.devRef .tc main_v0)) (V d (Proc.devRef .tc main_v1))
    (tailMax (V d (Proc.devRef .tc main_arg0)) (V d (Proc.devRef .tc main_v0))) (tailMax (V d (Proc.devRef .tc main_arg0)) (V d (Proc.devRef .tc main_v1)))).2
  have hafter : (held (SparseCore.T d) Scall (afterCall (V d)) : sProp 𝕄)
      = iprop((xLoc d ↦{fullShare} V d (Proc.devRef .tc main_arg0)) ∗ (m1Loc d ↦{fullShare} V d (Proc.devRef .tc main_v0))
        ∗ (m2Loc d ↦{fullShare} V d (Proc.devRef .tc main_v1))
        ∗ (o1Loc d ↦{fullShare} tailMax (V d (Proc.devRef .tc main_arg0)) (V d (Proc.devRef .tc main_v0)))
        ∗ (o2Loc d ↦{fullShare} tailMax (V d (Proc.devRef .tc main_arg0)) (V d (Proc.devRef .tc main_v1)))) := by
    rw [call_arrays, afterCall_ne _ (Proc.devRef .tc main_arg0) (by decide) (by decide), afterCall_ne _ (Proc.devRef .tc main_v0) (by decide) (by decide),
      afterCall_ne _ (Proc.devRef .tc main_v1) (by decide) (by decide)]
    unfold afterCall
    rw [Function.update_self, Function.update_of_ne (by decide), Function.update_self]
  have hrest : (held (SparseCore.T d) (Sall \ Scall) (afterCall (V d)) : sProp 𝕄) = held (SparseCore.T d) (Sall \ Scall) (V d) :=
    StableHlo.held_congr (SparseCore.T d) fun b hb => afterCall_ne _ b
      (by rintro rfl; exact (Finset.mem_sdiff.mp hb).2 (by decide)) (by rintro rfl; exact (Finset.mem_sdiff.mp hb).2 (by decide))
  rw [StableHlo.held_sub_split (SparseCore.T d) Scall_sub (V d), StableHlo.held_sub_split (SparseCore.T d) Scall_sub (afterCall (V d)), hafter, hrest, call_arrays]
  iintro ⟨#Hctx, Hst, ⟨Hc, Hr⟩, Hk⟩
  ihave Hp := hin $$ Hc
  icases Hp with ⟨Hkept, Hparts⟩
  iapply ((K (F := F)).wp_run (D (F := F)) 𝒱 (EH := EH) (P := PV V) κ d 0) $$ [Hst Hr Hk Hkept Hparts]
  isplitr; · iexact Hctx
  isplitl [Hst]; · iexact Hst
  isplitl [Hparts]; · iexact Hparts
  iintro ⟨Hst, Hdn⟩
  iapply Hk
  isplitl [Hst]; · iexact Hst
  isplitr [Hr]
  · iapply hout
    isplitl [Hkept]; · iexact Hkept
    iexact Hdn
  iexact Hr

/-! ## The main program -/

/-- The level of every wait a TensorCore may have recorded. -/
theorem wBelow_one (d : Dev nD) (W : Waits sig (HIx 1)) : (K (F := F)).WBelow (SparseCore.T d) W 8 := by
  intro p _
  rcases p with ⟨s, i⟩
  cases i with
  | none => exact Nat.zero_le _
  | some q =>
    have hq := q.isLt
    show 8 * q.val + 6 + 1 ≤ 8
    omega

theorem owed_one (d : Dev nD) : (K (F := F)).Otc d 1 = 0 := by
  unfold SparseCore.Cfg.Otc
  exact Finset.sum_eq_zero fun q _ => if_neg (by have := q.isLt; omega)

/-- What a TensorCore owes, beside the rest of its state. -/
theorem split_off {A A' B : sProp 𝕄} (h : A ⊢ A') (h' : A' ⊢ A) : ∃ R : sProp 𝕄, iprop(A ∗ B) ⊣⊢ iprop(A' ∗ R) :=
  ⟨B, sep_mono_left h, sep_mono_left h'⟩

/-- After the call a TensorCore's state is what it owes, nothing, beside the rest. -/
theorem tcSt_one (d : Dev nD) : ∃ R : sProp 𝕄, ((K (F := F)).tcSt EH d 1 : sProp 𝕄) ⊣⊢ iprop((∃ W, owes (SparseCore.T d) 0 W) ∗ R) := by
  unfold SparseCore.Cfg.tcSt
  rw [owed_one]
  refine split_off ?_ ?_
  · iintro ⟨%W, -, HO⟩
    iexists W; iexact HO
  · iintro ⟨%W, HO⟩
    iexists W
    isplitr; · ipureintro; exact wBelow_one d W
    iexact HO

theorem mem_all {b : Ref sig .tc} (h : b.isScoped = false) : (Proc.devRef .tc b : DevRef τ sig) ∈ Sall :=
  Finset.mem_map.mpr ⟨b, Finset.mem_filter.mpr ⟨Finset.mem_univ b, by rw [h]; decide⟩, rfl⟩
theorem sub_one {a : Ref sig .tc} (h : a.isScoped = false) : ({Proc.devRef .tc a} : Finset (DevRef τ sig)) ⊆ Sall :=
  Finset.singleton_subset_iff.mpr (mem_all h)
theorem sub_two {a b : Ref sig .tc} (h₁ : a.isScoped = false) (h₂ : b.isScoped = false) :
    ({Proc.devRef .tc a, Proc.devRef .tc b} : Finset (DevRef τ sig)) ⊆ Sall := Finset.insert_subset (mem_all h₁) (sub_one h₂)
theorem sub_four {a b c e : Ref sig .tc} (h₁ : a.isScoped = false) (h₂ : b.isScoped = false) (h₃ : c.isScoped = false) (h₄ : e.isScoped = false) :
    ({Proc.devRef .tc a, Proc.devRef .tc b, Proc.devRef .tc c, Proc.devRef .tc e} : Finset (DevRef τ sig)) ⊆ Sall :=
  Finset.insert_subset (mem_all h₁) (Finset.insert_subset (mem_all h₂) (sub_two h₃ h₄))

theorem sub1 : ∀ op ∈ (ops1 : List (HloOp τ sig (Elt F))), op.bufs ⊆ Sall := by
  intro op h
  simp only [ops1, List.mem_cons, List.not_mem_nil, or_false] at h
  rcases h with rfl | rfl | rfl | rfl | rfl | rfl | rfl | rfl | rfl | rfl | rfl | rfl | rfl | rfl | rfl | rfl <;>
    first | exact sub_two rfl rfl | exact sub_one rfl | exact sub_four rfl rfl rfl rfl
theorem fresh1 : ∀ op ∈ (ops1 : List (HloOp τ sig (Elt F))), op.fresh = ∅ := by
  intro op h
  simp only [ops1, List.mem_cons, List.not_mem_nil, or_false] at h
  rcases h with rfl | rfl | rfl | rfl | rfl | rfl | rfl | rfl | rfl | rfl | rfl | rfl | rfl | rfl | rfl | rfl <;> rfl
theorem sub2 : ∀ op ∈ (ops2 : List (HloOp τ sig (Elt F))), op.bufs ⊆ Sall := by
  intro op h
  simp only [ops2, List.mem_cons, List.not_mem_nil, or_false] at h
  subst h; exact sub_two rfl rfl
theorem fresh2 : ∀ op ∈ (ops2 : List (HloOp τ sig (Elt F))), op.fresh = ∅ := by
  intro op h
  simp only [ops2, List.mem_cons, List.not_mem_nil, or_false] at h
  subst h; rfl

/-- What the program leaves on a device: every array at its contents at the end. -/
abbrev FIN (d : Dev nD) : sProp 𝕄 := held (SparseCore.T d) Sall (atEnd (start m d))

/-- The contents at the SparseCore call, -/
abbrev V₁ (d : Dev nD) : Valuation τ sig (Elt F) := atCall (start m d)
/-- after it, -/
abbrev VA (d : Dev nD) : Valuation τ sig (Elt F) := afterCall (atCall (start m d))
/-- and at the head's region. -/
abbrev VH (d : Dev nD) : Valuation τ sig (Elt F) := atHead (start m d)

theorem hmain [∀ e, Nonempty (Elt F e)] (κ : GSem nD τ sig → ℕ) (d : Dev nD) :
    iprop((K (F := F)).ctx EH (PV (V₁ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [unscoped_held, main_eq]
  have hG : (G d : sProp 𝕄) = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
    unfold G
    rw [show (Finset.univ : Finset (Fin 2)) = {0, 1} from rfl, SparseCore.bigSep_insert' (by decide), bigSep_singleton]
  rw [hG]
  iintro ⟨#Hctx, Hst, ⟨Hb, Hheld, Hts, -⟩, Hg1, Hg2⟩
  ihave #Hlev := (SparseCore.Cfg.ctx_levAts κ) $$ Hctx
  iapply (StableHlo.wp_seq 𝒱 none Set.univ d Sall _ ops1 sub1 fresh1 (start m d)) $$ [Hb Hheld]
  · isplitl [Hb] <;> iassumption
  iintro ⟨Hb, Hheld⟩
  rw [wp_bind]
  iapply (call_wp κ (V₁ m) d _) $$ [Hst Hb Hheld Hts Hg1 Hg2]
  isplitr; · iexact Hctx
  isplitl [Hst]; · iexact Hst
  isplitl [Hheld]; · iexact Hheld
  iintro ⟨Hst, Hheld⟩
  ihave Hst' := hR.1 $$ Hst
  icases Hst' with ⟨HO, HR⟩
  rw [wp_bind]
  have h1 := region_wp (VA m) (VH m) (seg1 (VA m) (VH m)) d
  rw [pre1, post1] at h1
  iapply (h1 _) $$ [Hb Hheld Hts Hg1 Hg2 HO HR]
  isplitl [Hts Hg2 HR]
  · iintro ⟨Hb, Hheld, HO⟩
    iapply (StableHlo.wp_seq 𝒱 none Set.univ d Sall _ ops2 sub2 fresh2 (out1 (VA m d))) $$ [Hb Hheld]
    · isplitl [Hb] <;> iassumption
    iintro ⟨Hb, Hheld⟩
    have h2 := region_wp (VA m) (VH m) (seg2 (VA m) (VH m)) d
    rw [pre2, post2] at h2
    iapply (h2 _) $$ [Hb Hheld Hts Hg2 HO HR]
    isplitl [Hts HR]
    · iintro ⟨Hb, Hheld, HO⟩
      isplitl [HO HR]
      · iapply hR.2
        isplitl [HO]; · iexact HO
        iexact HR
      isplitl [Hheld]; · iexact Hheld
      isplitl [Hb] <;> iassumption
    isplitl [Hb]; · iexact Hb
    isplitl [Hheld HO]
    · isplitl [Hheld]; · iexact Hheld
      iexact HO
    isplitr; · iexact Hlev
    iexact Hg2
  isplitl [Hb]; · iexact Hb
  isplitl [Hheld HO]
  · isplitl [Hheld]; · iexact Hheld
    iexact HO
  isplitr; · iexact Hlev
  iexact Hg1

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PV (V₁ m)).x q thr) := by
  unfold u₀
  have hg : (bigSep Finset.univ fun d : Dev nD => G d : sProp 𝕄)
      = iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => Pipeline.toksInit (Pipeline.pin (pcfgs (F := F)) adm) EP p c)) := by
    rw [← bigSep_sep']
    refine bigSep_congr fun d _ => ?_
    unfold G
    rw [bigSep_sep']
  have hx : (bigSep Finset.univ fun thr : Thread nD τ => bigSep Finset.univ fun q : Fin 1 => (PV (F := F) (V₁ m)).x q thr : sProp 𝕄) = iprop(emp) := by
    rw [show (bigSep Finset.univ fun thr : Thread nD τ => bigSep Finset.univ fun q : Fin 1 => (PV (F := F) (V₁ m)).x q thr : sProp 𝕄)
      = bigSep Finset.univ fun _ => iprop(emp) from bigSep_congr fun _ _ => bigSep_univ_of_subsingleton (0 : Fin 1)]
    exact bigSep_emp_const _
  rw [hg, hx]
  iintro Hu
  ihave H := (ownU_pair (A := UH) (B := UP × Counters) _ _) $$ Hu
  icases H with ⟨HH, H2⟩
  ihave H3 := (own_pair_emb (embR (A := UH) (B := UP × Counters)) _ _) $$ H2
  icases H3 with ⟨H4, -⟩
  have hf := Pipeline.fund_ghost (nD := nD) (τ := τ) (Pipeline.pin (pcfgs (F := F)) adm) (EP (F := F)) cellOf_inj
  unfold EP at hf ⊢
  imod hf $$ H4 with H5
  imodintro
  isplitl [HH]; · iexact HH
  isplitl [H5]; · iexact H5
  iempintro

/-! ## The run -/

/-- What the final memory holds: every array of the main program at its contents at the end. -/
def fq (d : Dev nD) (s' : Phys nD τ sig (Elt F)) : Prop :=
  ∀ b : Ref sig .tc, b.isScoped = false → s'.mem.mem ((SparseCore.T d).loc b) = atEnd (start m d) (Proc.devRef .tc b)

theorem hfin (d : Dev nD) (s' : Phys nD τ sig (Elt F)) : iprop(FIN m d ∗ SI s') ⊢ (⌜fq m d s'⌝ : sProp 𝕄) := by
  have hone : ∀ b : Ref sig .tc, iprop(FIN m d ∗ SI s')
      ⊢ (⌜b.isScoped = false → s'.mem.mem ((SparseCore.T d).loc b) = atEnd (start m d) (Proc.devRef .tc b)⌝ : sProp 𝕄) := by
    intro b
    by_cases hb : b.isScoped = false
    · have he : (FIN m d : sProp 𝕄) ⊢ iprop((SparseCore.T d).loc b ↦{fullShare} atEnd (start m d) (Proc.devRef .tc b)) :=
        bigSep_elim (mem_all hb)
      iintro ⟨H, HSI⟩
      ihave H := he $$ H
      ihave H := (SI_pointsTo_agree (st := s') (ℓ := (SparseCore.T d).loc b) (I := Finset.univ) (q := fullShare)
        (f := atEnd (start m d) (Proc.devRef .tc b))) $$ [HSI H]
      · isplitl [HSI] <;> iassumption
      icases H with %h
      ipureintro; exact fun _ => funext fun i => h i (Finset.mem_univ i)
    · iintro -
      ipureintro; exact fun h => absurd h hb
  exact (forall_intro hone).trans pure_forall.2

/-- What the run ends with. -/
def QC : PUnit × MemSt nD τ sig (Elt F) → Prop := fun r =>
  (∀ (d : Dev nD) (b : Ref sig .tc), b.isScoped = false → r.2.mem ((SparseCore.T d).loc b) = atEnd (start m d) (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PV (V₁ m)) (A := ∅) facts v₀
    (fun q hq => match q with | 0 => nomatch hq)
    (fun q _ => match q with | 0 => tileObl _ _ _ _ _ facts)
    (fun q _ => match q with | 0 => SparseCore.Cfg.VecSplit.of_plain (vecSplit _ _ _ _ _))
    m ρ main G (FIN m) (u₀ (F := F)) (sep_elim_left.trans (hu₀ m)) (hmain m ρ) (fq m) (hfin m) (QC m) (fun _ h hz => ⟨h, hz⟩)

/-! ## The arguments are kept -/

theorem not_written {b r : Ref sig .tc} (h : b ≠ r) : (Proc.devRef .tc b : DevRef τ sig) ∉ ({Proc.devRef .tc r} : Finset (DevRef τ sig)) :=
  fun e => h (Proc.devRef_injective _ (Finset.mem_singleton.mp e))

theorem atCall_args (V : Valuation τ sig (Elt F)) (b : Ref sig .tc) (hb : b ∈ ([main_arg0, main_arg1, main_arg2, main_arg3, main_arg4] : List (Ref sig .tc))) :
    atCall V (Proc.devRef .tc b) = V (Proc.devRef .tc b) := by
  have hne : ∀ r ∈ ([main_v0, main_v1, main_cst, main_cst_0, main_call0_v0, main_call0_v1, main_call0_v2, main_v2, main_v3, main_cst_1, main_cst_2,
    main_call1_v0, main_call1_v1, main_call1_v2, main_v4, main_v5] : List (Ref sig .tc)), b ≠ r := by
    intro r hr e; subst e; revert hb hr; revert b; decide
  refine StableHlo.after_of_forall_not_mem ops1 _ fun op h => ?_
  simp only [ops1, List.mem_cons, List.not_mem_nil, or_false] at h
  rcases h with rfl | rfl | rfl | rfl | rfl | rfl | rfl | rfl | rfl | rfl | rfl | rfl | rfl | rfl | rfl | rfl <;>
    exact not_written (hne _ (by simp))

theorem atHead_ne (V : Valuation τ sig (Elt F)) (b : Ref sig .tc) (h₈ : b ≠ main_v8) (h₇ : b ≠ main_v7) :
    atHead V (Proc.devRef .tc b) = afterCall (atCall V) (Proc.devRef .tc b) := by
  refine (StableHlo.after_of_forall_not_mem ops2 _ fun op h => ?_).trans (out1_ne _ b fun e => h₇ (Proc.devRef_injective _ e))
  simp only [ops2, List.mem_cons, List.not_mem_nil, or_false] at h
  subst h
  exact not_written h₈

/-- The arguments are kept. -/
theorem kept_args (V : Valuation τ sig (Elt F)) (b : Ref sig .tc) (hb : b ∈ ([main_arg0, main_arg1, main_arg2, main_arg3, main_arg4] : List (Ref sig .tc))) :
    atEnd V (Proc.devRef .tc b) = V (Proc.devRef .tc b) := by
  have hne : ∀ r ∈ ([main_v6_0, main_v6_1, main_v7, main_v8, main_v9] : List (Ref sig .tc)), b ≠ r := by
    intro r hr e; subst e; revert hb hr; revert b; decide
  have hd : ∀ r ∈ ([main_v6_0, main_v6_1, main_v7, main_v8, main_v9] : List (Ref sig .tc)), (Proc.devRef .tc b : DevRef τ sig) ≠ Proc.devRef .tc r :=
    fun r hr e => hne r hr (Proc.devRef_injective _ e)
  unfold atEnd
  rw [out2_ne _ b (hd _ (by simp)), atHead_ne _ b (hne _ (by simp)) (hne _ (by simp)), afterCall_ne _ _ (hd _ (by simp)) (hd _ (by simp)), atCall_args V b hb]

end Cert.Proof.Launch

end
-- ==== Proof.Frames.lean ====
/-
  The frames: the kernel at the machine's floats and at the extended reals, and the reference.
-/
module

public import proofs.«01_k».proof.Defs
public import proofs.«01_k».proof.Proof.Gen.Kernel
public import proofs.«01_k».proof.Proof.Gen.ReferenceIdeal.Run
public import proofs.«01_k».proof.Proof.Main
public import Idealize.ShloMosaic.Lib.Quiescent

@[expose] public section

noncomputable section

namespace Cert.Proof

open Idealize.ShloMosaic Idealize.SL.Sem

theorem frame_ideal : Cert.quiescent_KernelIdeal (hKernelIdeal := Cert.KernelIdeal.Gen.facts) := fun m g _ =>
  (θ_run Cert.KernelIdeal.defs _ _).mono (fun _ h => ⟨fun c =>
    ⟨(h.1 c Cert.KernelIdeal.main_arg0 rfl).trans (Launch.kept_args _ _ (by simp)), (h.1 c Cert.KernelIdeal.main_arg1 rfl).trans (Launch.kept_args _ _ (by simp)),
      (h.1 c Cert.KernelIdeal.main_arg2 rfl).trans (Launch.kept_args _ _ (by simp)), (h.1 c Cert.KernelIdeal.main_arg3 rfl).trans (Launch.kept_args _ _ (by simp)),
      (h.1 c Cert.KernelIdeal.main_arg4 rfl).trans (Launch.kept_args _ _ (by simp))⟩, h.2⟩) (Launch.run_main (F := Ideal) m g)

/-! ## The kernel's module is its idealization's, read at the machine's floats -/

section Same

open Cert.KernelIdeal Cert.KernelIdeal.Gen

variable {F : FTy → Type} [FloatOps F]

theorem main_eq (d) : Cert.Kernel.main (F := F) d = Cert.KernelIdeal.main (F := F) d := rfl

set_option maxHeartbeats 4000000 in
theorem bodies_eq : Cert.Kernel.defs₀ (F := F) = Cert.KernelIdeal.defs₀ (F := F) := by
  funext p ℓ a
  match p, ℓ, a with
  | .tc, 0, _ => rfl
  | .tc, 1, _ => rfl
  | .tc, 2, _ => rfl
  | .scVector _ _, 0, _ => rfl
  | .scVector _ _, 1, _ => rfl
  | .scVector _ _, 2, _ => rfl
  | .scScalar _, 0, _ => rfl
  | .scScalar _, 1, _ => rfl
  | .scScalar _, 2, _ => rfl

theorem defs_eq : Cert.Kernel.defs (F := F) = Cert.KernelIdeal.defs (F := F) :=
  congrArg (fun x => (sc (F := F)).defs (Pipeline.defs pcfgs x)) bodies_eq

theorem threads_eq : Cert.Kernel.threads (F := F) = Cert.KernelIdeal.threads (F := F) :=
  congrArg (fun x => (sc (F := F)).threads x) (funext main_eq)

end Same

theorem frame_kernel : Cert.quiescent_Kernel (hKernel := Cert.Kernel.Gen.facts) := by
  intro m g _
  have h := (θ_run (Cert.KernelIdeal.defs (F := Bits)) _ _).mono (fun _ h => (⟨fun c =>
    ⟨(h.1 c Cert.KernelIdeal.main_arg0 rfl).trans (Launch.kept_args _ _ (by simp)), (h.1 c Cert.KernelIdeal.main_arg1 rfl).trans (Launch.kept_args _ _ (by simp)),
      (h.1 c Cert.KernelIdeal.main_arg2 rfl).trans (Launch.kept_args _ _ (by simp)), (h.1 c Cert.KernelIdeal.main_arg3 rfl).trans (Launch.kept_args _ _ (by simp)),
      (h.1 c Cert.KernelIdeal.main_arg4 rfl).trans (Launch.kept_args _ _ (by simp))⟩, h.2⟩ :
    (∀ c : Dev Cert.KernelIdeal.nD, _ ∧ _ ∧ _ ∧ _ ∧ _) ∧ _)) (Launch.run_main (F := Bits) m g)
  rw [← defs_eq, ← threads_eq] at h
  exact h

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

end Cert.Proof

end
-- ==== Proof.Pooled.lean ====
/-
  The pooled maxima over the extended reals: over a batch row's tokens, of a feature where the mask holds. A maximum
  is told from what it lies below, so the order in which tokens are taken does not matter.
-/
module

public import proofs.«01_k».proof.Proof.Main
public import Idealize.ShloMosaic.Lib.KernelVsHost
public import Idealize.ShloMosaic.Lib.ValueLayoutCasts
public import Idealize.ShloMosaic.Lib.IdealHost

@[expose] public section

noncomputable section

namespace Cert.Proof.Value

open Cert.KernelIdeal Cert.KernelIdeal.Gen
open Cert.Proof.Chunk Cert.Proof.Launch Cert.Proof.Tc
open Idealize.ShloMosaic
open Idealize.ShloMosaic.ValueIdx

theorem negInf_eq : (Ideal.ofBits .f32 0xFF800000#32 : EReal) = ⊥ := by simp [Ideal.ofBits, Ideal.ieee]

/-- The bias of a mask's bit. -/
def biasB (w : BitVec 1) : EReal := if w = 1 then 0 else ⊥

/-- A feature at a token, where the mask holds. -/
def kept (w : BitVec 1) (x : EReal) : EReal := if w = 1 then x else ⊥

theorem add_biasB (w : BitVec 1) (x : EReal) : x + biasB w = kept w x := by
  unfold biasB kept
  split
  · rw [add_zero]
  · rw [EReal.add_bot]

theorem biasW_eq (w : BitVec 1) : (biasW (F := Ideal) (w.setWidth 32) : EReal) = biasB w := by
  have h : IntOp.cmpi .sgt (w.setWidth 32) 0#32 = w := by revert w; decide
  unfold biasW biasB Scalar.select
  rw [h]
  show (if w = 1 then (Ideal.ofBits .f32 0x00000000#32 : EReal) else Ideal.ofBits .f32 0xFF800000#32) = _
  rw [negInf_eq, Ideal.ofBits_zero_f32]

/-- The maximum of a feature over a batch row's tokens where the mask holds. -/
def pooled (X : S4x2048x768.Idx → EReal) (m : S4x2048.Idx → BitVec 1) (b : Fin 4) (f : Fin 768) : EReal :=
  (Finset.univ : Finset (Fin 2048)).fold max ⊥ fun t => kept (m (ix2 b t)) (X (ix3 b t f))

theorem pooled_le (X : S4x2048x768.Idx → EReal) (m : S4x2048.Idx → BitVec 1) (b : Fin 4) (f : Fin 768) (z : EReal) :
    pooled X m b f ≤ z ↔ ∀ t : Fin 2048, kept (m (ix2 b t)) (X (ix3 b t f)) ≤ z := by
  unfold pooled
  rw [Finset.fold_max_le]
  simp

/-! ## The subcores' part -/

section Tail

variable (X : S4x2048x768.Idx → Ideal .f32) (M : S2048.Idx → BitVec 32) (b : Fin 4) (f : Fin 768)

/-- What a token contributes. -/
def term (t : ℕ) : EReal := X (ix3 b (Fin.ofNat 2048 t) f) + biasW (F := Ideal) (M (ix1 (Fin.ofNat 2048 t)))

theorem run_le (z : EReal) : ∀ (n t : ℕ) (a : EReal),
    (runFrom (step X M b f) n t a : EReal) ≤ z ↔ a ≤ z ∧ ∀ k, k < n → term X M b f (t + k) ≤ z
  | 0, _, _ => by simp [runFrom]
  | n + 1, t, a => by
    show (runFrom (step X M b f) n (t + 1) (max a (term X M b f t)) : EReal) ≤ z ↔ _
    rw [run_le z n (t + 1), max_le_iff, and_assoc]
    refine and_congr_right fun _ => ⟨fun h k hk => ?_, fun h => ⟨h 0 (by omega), fun k hk => ?_⟩⟩
    · rcases Nat.eq_zero_or_pos k with rfl | hp
      · exact h.1
      · have := h.2 (k - 1) (by omega)
        rwa [show t + 1 + (k - 1) = t + k by omega] at this
    · have := h (k + 1) (by omega)
      rwa [show t + (k + 1) = t + 1 + k by omega] at this

theorem res_le (z : EReal) : ∀ c : ℕ, (resMax X M b f c : EReal) ≤ z ↔ ∀ k, k < 128 * c → term X M b f k ≤ z
  | 0 => by
    show (Ideal.ofBits .f32 0xFF800000#32 : EReal) ≤ z ↔ _
    rw [negInf_eq]; simp
  | c + 1 => by
    show max (resMax X M b f c : EReal) (runFrom (step X M b f) 128 (128 * c) nInf) ≤ z ↔ _
    rw [max_le_iff, res_le z c, run_le]
    have hn : (nInf (F := Ideal) : EReal) ≤ z := by
      show (Ideal.ofBits .f32 0xFF800000#32 : EReal) ≤ z
      rw [negInf_eq]; exact bot_le
    refine ⟨fun h k hk => ?_, fun h => ⟨fun k hk => h k (by omega), hn, fun k hk => h _ (by omega)⟩⟩
    by_cases hc : k < 128 * c
    · exact h.1 k hc
    · have := h.2.2 (k - 128 * c) (by omega)
      rwa [show 128 * c + (k - 128 * c) = k by omega] at this

end Tail

theorem tail_eq (X : S4x2048x768.Idx → Ideal .f32) (m : S4x2048.Idx → BitVec 1) (j : S4x256.Idx) :
    (tailMax X (fun i => (m i).setWidth 32) j : EReal) = pooled X m (j 0) (Fin.ofNat 768 (512 + (j 1).val)) := by
  refine eq_of_forall_ge_iff fun z => ?_
  unfold tailMax
  refine (res_le _ _ _ _ z 16).trans (Iff.trans ?_ (pooled_le _ _ _ _ z).symm)
  have ht : ∀ t : Fin 2048, term X (rowM (fun i => (m i).setWidth 32) (j 0)) (j 0) (Fin.ofNat 768 (512 + (j 1).val)) t.val
      = kept (m (ix2 (j 0) t)) (X (ix3 (j 0) t (Fin.ofNat 768 (512 + (j 1).val)))) := by
    intro t
    have e : Fin.ofNat 2048 t.val = t := Fin.ext (Nat.mod_eq_of_lt t.isLt)
    unfold term
    rw [e, ← add_biasB, ← biasW_eq]
    rfl
  refine ⟨fun h t => ?_, fun h k hk => ?_⟩
  · rw [← ht]; exact h _ (by have := t.isLt; omega)
  · have := ht ⟨k, by omega⟩
    rw [this]; exact h _

/-! ## The grid's part -/

theorem unit_emb {s : Shape} (off : Fin s.rank → ℕ) (h : ∀ a, off a + s.size a ≤ s.size a) (j : s.Idx) :
    (Rect.unit (s := s) off s.size h).emb j = j := by
  funext a
  apply Fin.ext
  show off a + 1 * (j a).val = (j a).val
  have := h a
  omega

section Axis

variable {n₀ n₁ n₂ : ℕ}

theorem max_axis0_le (v : FVec Ideal ⟨2, ![n₀, n₁]⟩ .f32) (h : Shape.Reduces ⟨2, ![n₀, n₁]⟩ [0] ⟨1, ![n₁]⟩) (hφ : FKind.Formats .f32)
    (hacc : (0xFF800000#32 : BitVec 32) = FKind.maximumf.neutral .f32 hφ) (f : Fin n₁) (z : EReal) :
    (multiReduction .maximumf [0] ⟨1, ![n₁]⟩ v 0xFF800000#32 h hφ hacc (ix1 f) : EReal) ≤ z ↔ ∀ r : Fin n₀, (v (ix2 r f) : EReal) ≤ z := by
  have hl : ∀ r : Fin n₀, h.lift (ix1 f) r = ix2 r f := fun r => by
    funext a; apply Fin.ext
    match a with
    | ⟨0, _⟩ => rfl
    | ⟨1, _⟩ => rfl
  rw [Ideal.multiReduction_maximumf_single]
  refine (Finset.fold_max_le (c := z)).trans ?_
  have hz : (Ideal.ofBits .f32 0xFF800000#32 : EReal) ≤ z := by rw [negInf_eq]; exact bot_le
  exact (and_iff_right hz).trans ⟨fun h r => hl r ▸ h r (Finset.mem_univ _), fun h r _ => (le_of_eq (congrArg v (hl r))).trans (h r)⟩

theorem max_axis0_le3 (v : FVec Ideal ⟨3, ![n₀, n₁, n₂]⟩ .f32) (h : Shape.Reduces ⟨3, ![n₀, n₁, n₂]⟩ [0] ⟨2, ![n₁, n₂]⟩) (hφ : FKind.Formats .f32)
    (hacc : (0xFF800000#32 : BitVec 32) = FKind.maximumf.neutral .f32 hφ) (s : Fin n₁) (f : Fin n₂) (z : EReal) :
    (multiReduction .maximumf [0] ⟨2, ![n₁, n₂]⟩ v 0xFF800000#32 h hφ hacc (ix2 s f) : EReal) ≤ z ↔ ∀ r : Fin n₀, (v (ix3 r s f) : EReal) ≤ z := by
  have hl : ∀ r : Fin n₀, h.lift (ix2 s f) r = ix3 r s f := fun r => by
    funext a; apply Fin.ext
    match a with
    | ⟨0, _⟩ => rfl
    | ⟨1, _⟩ => rfl
    | ⟨2, _⟩ => rfl
  rw [Ideal.multiReduction_maximumf_single]
  refine (Finset.fold_max_le (c := z)).trans ?_
  have hz : (Ideal.ofBits .f32 0xFF800000#32 : EReal) ≤ z := by rw [negInf_eq]; exact bot_le
  exact (and_iff_right hz).trans ⟨fun h r => hl r ▸ h r (Finset.mem_univ _), fun h r _ => (le_of_eq (congrArg v (hl r))).trans (h r)⟩

end Axis

theorem poolRow_le (X : S1x2048x512.Idx → Ideal .f32) (B : S1x2048x1.Idx → Ideal .f32) (f : Fin 512) (z : EReal) :
    (poolRow X B (ix2 0 f) : EReal) ≤ z ↔ ∀ t : Fin 2048, (X (ix3 0 t f) : EReal) + B (ix3 0 t 0) ≤ z := by
  have hv : ∀ (r : Fin 256) (s : Fin 8), (shapeCast S256x8x512 (shapeCast S2048x512
      (fun j => X ((Rect.unit (s := S1x2048x512) ![0, 0, 0] S1x2048x512.size inb_S1x2048x512_S1x2048x512_0_0_0).emb j) : FVec Ideal S1x2048x512 .f32)
      shapeCasts_S1x2048x512_S2048x512) shapeCasts_S2048x512_S256x8x512 (ix3 r s f) : EReal) = X (ix3 0 ⟨8 * r.val + s.val, by omega⟩ f) := by
    intro r s
    refine (shapeCast_apply _ shapeCasts_S2048x512_S256x8x512 (ix3 r s f) (ix2 ⟨8 * r.val + s.val, by omega⟩ f) ?_).trans ?_
    · rw [Shape.rowMajor_val_two, Shape.rowMajor_val_three]
      show (8 * r.val + s.val) * 512 + f.val = (r.val * 8 + s.val) * 512 + f.val
      omega
    · refine (shapeCast_dropUnit_apply ![2048, 512] _ shapeCasts_S1x2048x512_S2048x512 _).trans ?_
      refine congrArg X ((unit_emb (s := S1x2048x512) _ _ _).trans ?_)
      funext a; apply Fin.ext
      match a with
      | ⟨0, _⟩ => rfl
      | ⟨1, _⟩ => rfl
      | ⟨2, _⟩ => rfl
  have hb : ∀ (r : Fin 256) (s : Fin 8), (broadcastTo S256x8x512 (shapeCast S256x8x1 (shapeCast S2048x1
      (fun j => B ((Rect.unit (s := S1x2048x1) ![0, 0, 0] S1x2048x1.size inb_S1x2048x1_S1x2048x1_0_0_0).emb j) : FVec Ideal S1x2048x1 .f32)
      shapeCasts_S1x2048x1_S2048x1) shapeCasts_S2048x1_S256x8x1) broadcasts_S256x8x1_S256x8x512 (ix3 r s f) : EReal) = B (ix3 0 ⟨8 * r.val + s.val, by omega⟩ 0) := by
    intro r s
    refine (broadcastTo_apply _ broadcasts_S256x8x1_S256x8x512 (ix3 r s f) (ix3 r s 0) ?_).trans ?_
    · intro a
      match a with
      | ⟨0, _⟩ => rfl
      | ⟨1, _⟩ => rfl
      | ⟨2, _⟩ => rfl
    refine (shapeCast_apply _ shapeCasts_S2048x1_S256x8x1 (ix3 r s 0) (ix2 ⟨8 * r.val + s.val, by omega⟩ 0) ?_).trans ?_
    · rw [Shape.rowMajor_val_two, Shape.rowMajor_val_three]
      show (8 * r.val + s.val) * 1 + 0 = (r.val * 8 + s.val) * 1 + 0
      omega
    · refine (shapeCast_dropUnit_apply ![2048, 1] _ shapeCasts_S1x2048x1_S2048x1 _).trans ?_
      refine congrArg B ((unit_emb (s := S1x2048x1) _ _ _).trans ?_)
      funext a; apply Fin.ext
      match a with
      | ⟨0, _⟩ => rfl
      | ⟨1, _⟩ => rfl
      | ⟨2, _⟩ => rfl
  unfold poolRow
  refine (iff_of_eq (congrArg (fun y : EReal => y ≤ z) (shapeCast_a_1a_apply _ shapeCasts_S512_S1x512 0 f))).trans ?_
  refine (max_axis0_le _ _ _ _ f z).trans ?_
  have hs : ∀ s : Fin 8, _ ↔ ∀ r : Fin 256, (X (ix3 0 ⟨8 * r.val + s.val, by omega⟩ f) : EReal) + B (ix3 0 ⟨8 * r.val + s.val, by omega⟩ 0) ≤ z :=
    fun s => (max_axis0_le3 (addf (shapeCast S256x8x512 (shapeCast S2048x512
      (fun j => X ((Rect.unit (s := S1x2048x512) ![0, 0, 0] S1x2048x512.size inb_S1x2048x512_S1x2048x512_0_0_0).emb j) : FVec Ideal S1x2048x512 .f32)
      shapeCasts_S1x2048x512_S2048x512) shapeCasts_S2048x512_S256x8x512) (broadcastTo S256x8x512 (shapeCast S256x8x1 (shapeCast S2048x1
      (fun j => B ((Rect.unit (s := S1x2048x1) ![0, 0, 0] S1x2048x1.size inb_S1x2048x1_S1x2048x1_0_0_0).emb j) : FVec Ideal S1x2048x1 .f32)
      shapeCasts_S1x2048x1_S2048x1) shapeCasts_S2048x1_S256x8x1) broadcasts_S256x8x1_S256x8x512)) reduces_S256x8x512_S8x512 (.inl rfl) rfl s f z).trans
      (forall_congr' fun r => by rw [← hv, ← hb]; rfl)
  constructor
  · intro h t
    have := (hs ⟨t.val % 8, Nat.mod_lt _ (by decide)⟩).1 (h _) ⟨t.val / 8, by have := t.isLt; omega⟩
    have e : (⟨8 * (t.val / 8) + t.val % 8, by have := t.isLt; omega⟩ : Fin 2048) = t := Fin.ext (Nat.div_add_mod _ _)
    rw [e] at this
    exact this
  · intro h s
    exact (hs s).2 fun r => h _

theorem pool_eq (X : S4x2048x768.Idx → Ideal .f32) (m₁ m₂ : S4x2048.Idx → BitVec 1) (B₁ B₂ : S4x2048x1.Idx → Ideal .f32)
    (h₁ : ∀ b t, (B₁ (ix3 b t 0) : EReal) = biasB (m₁ (ix2 b t))) (h₂ : ∀ b t, (B₂ (ix3 b t 0) : EReal) = biasB (m₂ (ix2 b t))) (b : Fin 4) (f : Fin 512) :
    (poolOut X B₁ B₂ (ix2 b (f.castLE (by decide : 512 ≤ 1024))) : EReal) = pooled X m₁ b (f.castLE (by decide))
    ∧ (poolOut X B₁ B₂ (ix2 b ⟨512 + f.val, by omega⟩) : EReal) = pooled X m₂ b (f.castLE (by decide)) := by
  constructor
  · refine eq_of_forall_ge_iff fun z => ?_
    have e : (poolOut X B₁ B₂ (ix2 b (f.castLE (by decide : 512 ≤ 1024))) : EReal) = poolRow (xRow X b) (bRow B₁ b) (ix2 0 f) := by
      unfold poolOut; exact dif_pos f.isLt
    rw [e]
    refine (poolRow_le _ _ f z).trans (Iff.trans (forall_congr' fun t => ?_) (pooled_le _ _ _ _ z).symm)
    rw [← add_biasB, ← h₁]; rfl
  · refine eq_of_forall_ge_iff fun z => ?_
    have e : (poolOut X B₁ B₂ (ix2 b ⟨512 + f.val, by omega⟩) : EReal) = poolRow (xRow X b) (bRow B₂ b) (ix2 0 f) := by
      unfold poolOut
      refine (dif_neg (show ¬ (512 + f.val < 512) by omega)).trans ?_
      congr 2; apply Fin.ext; show 512 + f.val - 512 = f.val; omega
    rw [e]
    refine (poolRow_le _ _ f z).trans (Iff.trans (forall_congr' fun t => ?_) (pooled_le _ _ _ _ z).symm)
    rw [← add_biasB, ← h₂]; rfl

end Cert.Proof.Value

end
-- ==== Proof.Spec.lean ====
/-
  The reference's result, stage by stage: the counts, the padded rows, the pooled features, the scores, the softmax.
-/
module

public import proofs.«01_k».proof.Proof.Gen.ReferenceIdeal.Run

@[expose] public section

noncomputable section

namespace Cert.Proof.Spec

open Cert.ReferenceIdeal Cert.ReferenceIdeal.Gen
open Idealize.ShloMosaic Idealize.ShloMosaic.TcCoe

variable {F : FTy → Type} [FloatOps F]

/-- The number of tokens a batch row's mask holds. -/
def cnt (m : S4x2048.Idx → BitVec 1) : IVec S4 32 :=
  Host.reduce IntOp.addi (extui 32 m natLt_1_32) (constantI S_ 32 0#32) reducesTo_S4x2048_S4_d1 h_S_

/-- The largest of the counts. -/
def maxCnt (n : IVec S4 32) : IVec S_ 32 := Host.reduce IntOp.maxsi n (constantI S_ 32 2147483648#32) reducesTo_S4_S_d0 h_S_

/-- Whether a batch row is padded, for every feature. -/
def padded (m : S4x2048.Idx → BitVec 1) : IVec S4x768 1 :=
  broadcastInDim S4x768 ![0, 1] bcast_S4x1_S4x768_0_1 (broadcastInDim S4x1 ![0] bcast_S4_S4x1_0
    (cmpi .slt (cnt m) (broadcastInDim S4 ![] bcast_S_S4 (maxCnt (cnt m)))))

/-- The maxima of the masked features. -/
def mx (X : S4x2048x768.Idx → F .f32) (m : S4x2048.Idx → BitVec 1) : FVec F S4x768 .f32 :=
  Host.reduce FloatOps.maximumf (select (broadcastInDim S4x2048x768 ![0, 1, 2] bcast_S4x2048x1_S4x2048x768_0_1_2
      (broadcastInDim S4x2048x1 ![0, 1] bcast_S4x2048_S4x2048x1_0_1 m)) X
    (broadcastInDim S4x2048x768 ![] bcast_S_S4x2048x768 (id (constant S_ .f32 0xFF800000#32)))) (constant S_ .f32 0xFF800000#32)
    reducesTo_S4x2048x768_S4x768_d1 h_S_

/-- A side's features. -/
def side (X : S4x2048x768.Idx → F .f32) (m : S4x2048.Idx → BitVec 1) : FVec F S4x768 .f32 :=
  select (padded m) (maximumf (mx X m) (broadcastInDim S4x768 ![] bcast_S_S4x768 (constant S_ .f32 0x00000000#32))) (mx X m)

/-- The dense rows. -/
def dense (X : S4x2048x768.Idx → F .f32) (m₁ m₂ : S4x2048.Idx → BitVec 1) : FVec F S4x1536 .f32 :=
  concatenate S4x1536 1 [⟨S4x768, side X m₁⟩, ⟨S4x768, side X m₂⟩] concatenates_S4x768_S4x768_S4x1536_d1

/-- The scores before the softmax. -/
def logits (v : FVec F S4x1536 .f32) (W : S1536x42.Idx → F .f32) (b : S42.Idx → F .f32) : FVec F S4x42 .f32 :=
  addf (Host.dotGeneral dot_S4x1536_S1536x42_S4x42_1_0_0_1_n_n none v W)
    (broadcastInDim S4x42 ![0, 1] bcast_S1x42_S4x42_0_1 (broadcastInDim S1x42 ![1] bcast_S42_S1x42_1 b))

/-- A value per batch row, for every class. -/
def spread (y : FVec F S4 .f32) : FVec F S4x42 .f32 :=
  broadcastInDim S4x42 ![0, 1] bcast_S4x1_S4x42_0_1 (broadcastInDim S4x1 ![0] bcast_S4_S4x1_0 y)

/-- The scores' exponentials, of the differences to a row's largest. -/
def exps (v : FVec F S4x42 .f32) : FVec F S4x42 .f32 :=
  Host.exp (subf v (spread (maximumf (broadcastInDim S4 ![] bcast_S_S4 (constant S_ .f32 0xFF800000#32))
    (Host.reduce FloatOps.maximumf v (constant S_ .f32 0xFF800000#32) reducesTo_S4x42_S4_d1 h_S_))))

/-- The softmax over the classes. -/
def soft (v : FVec F S4x42 .f32) : FVec F S4x42 .f32 :=
  Host.divf (exps v) (spread (Host.reduceAdd (exps v) (constant S_ .f32 0x00000000#32) reducesTo_S4x42_S4_d1 h_S_))

theorem res_eq (m : (ℓ : Loc nD τ sig) → Buf (Elt F) ℓ) (c : Dev nD) :
    Cert.ReferenceIdeal.Value.res_main_v39 m c
      = soft (logits (dense (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4))) := rfl

end Cert.Proof.Spec

end
-- ==== Proof.Scores.lean ====
/-
  The head over the extended reals: its stages are the reference's, of the pooled features.
-/
module

public import proofs.«01_k».proof.Proof.Pooled
public import proofs.«01_k».proof.Proof.Spec

@[expose] public section

noncomputable section

namespace Cert.Proof.Value

open Cert.KernelIdeal Cert.KernelIdeal.Gen
open Cert.Proof.Chunk Cert.Proof.Launch
open Idealize.ShloMosaic
open Idealize.ShloMosaic.ValueIdx

/-! ## The softmax -/

theorem spread_eq (y : FVec Ideal S4 .f32) :
    broadcastTo S4x42 (shapeCast S4x1 y shapeCasts_S4_S4x1) broadcasts_S4x1_S4x42 = Spec.spread y := by
  funext i
  have e₁ : broadcastTo S4x42 (shapeCast S4x1 y shapeCasts_S4_S4x1) broadcasts_S4x1_S4x42 i = y (ix1 (i 0)) := by
    refine (broadcastTo_apply _ broadcasts_S4x1_S4x42 i (ix2 (i 0) 0) fun a => ?_).trans ?_
    · match a with
      | ⟨0, _⟩ => rfl
      | ⟨1, _⟩ => rfl
    · exact shapeCast_a_a1_apply y shapeCasts_S4_S4x1 _ _
  have e₂ : Spec.spread y i = y (ix1 (i 0)) := by
    unfold Spec.spread
    refine (broadcastInDim_apply _ _ _ i (ix2 (i 0) 0) fun a => ?_).trans (broadcastInDim_apply _ _ y _ (ix1 (i 0)) fun a => ?_)
    · match a with
      | ⟨0, _⟩ => rfl
      | ⟨1, _⟩ => rfl
    · match a with
      | ⟨0, _⟩ => rfl
  rw [e₁, e₂]

theorem rowMax_eq (v : FVec Ideal S4x42 .f32) : multiReduction .maximumf [1] S4 v 0xFF800000#32 reduces_S4x42_S4 (.inl rfl) rfl
    = maximumf (broadcastInDim Cert.ReferenceIdeal.S4 ![] Cert.ReferenceIdeal.Gen.bcast_S_S4 (constant Cert.ReferenceIdeal.S_ .f32 0xFF800000#32))
      (Host.reduce FloatOps.maximumf v (constant Cert.ReferenceIdeal.S_ .f32 0xFF800000#32) Cert.ReferenceIdeal.Gen.reducesTo_S4x42_S4_d1
        Cert.ReferenceIdeal.Gen.h_S_) := by
  have h := hostReduce_maximumf_eq_multiReduction v 0xFF800000#32 Cert.ReferenceIdeal.Gen.reducesTo_S4x42_S4_d1 Cert.ReferenceIdeal.Gen.h_S_
    reduces_S4x42_S4 (.inl rfl) rfl
  refine h.symm.trans (funext fun j => ?_)
  show _ = max (Ideal.ofBits .f32 0xFF800000#32 : EReal) _
  rw [negInf_eq]
  exact (max_eq_right bot_le).symm

theorem rowSum_eq (v : FVec Ideal S4x42 .f32) : multiReduction .add [1] S4 v 0x00000000#32 reduces_S4x42_S4 (.inl rfl) rfl
    = Host.reduceAdd v (constant Cert.ReferenceIdeal.S_ .f32 0x00000000#32) Cert.ReferenceIdeal.Gen.reducesTo_S4x42_S4_d1 Cert.ReferenceIdeal.Gen.h_S_ :=
  multiReduction_add_eq_hostReduceAdd v _ reduces_S4x42_S4 (.inl rfl) rfl _ _ _ Ideal.ofBits_zero_f32

theorem soft_eq (v : FVec Ideal S4x42 .f32) : Tc.soft v = Spec.soft v := by
  have e : exp (subf v (broadcastTo S4x42 (shapeCast S4x1 (multiReduction .maximumf [1] S4 v 0xFF800000#32 reduces_S4x42_S4 (.inl rfl) rfl)
      shapeCasts_S4_S4x1) broadcasts_S4x1_S4x42)) = Spec.exps v := by
    rw [spread_eq]
    unfold Spec.exps
    rw [← rowMax_eq]
    rfl
  show divf (exp (subf v (broadcastTo S4x42 (shapeCast S4x1 (multiReduction .maximumf [1] S4 v 0xFF800000#32 reduces_S4x42_S4 (.inl rfl) rfl)
      shapeCasts_S4_S4x1) broadcasts_S4x1_S4x42))) (broadcastTo S4x42 (shapeCast S4x1 (multiReduction .add [1] S4 _ 0x00000000#32 reduces_S4x42_S4 (.inl rfl) rfl)
      shapeCasts_S4_S4x1) broadcasts_S4x1_S4x42) = _
  rw [e, spread_eq, rowSum_eq]
  rfl

/-! ## The scores -/

theorem logits_eq (v : FVec Ideal S4x1536 .f32) (W : S1536x42.Idx → Ideal .f32) (b : S42.Idx → Ideal .f32) :
    Tc.logits v W (shapeCast S1x42 b shapeCasts_S42_S1x42) = Spec.logits v W b := by
  unfold Tc.logits Spec.logits
  have eW : (fun j => W ((Rect.unit (s := S1536x42) ![0, 0] S1536x42.size inb_S1536x42_S1536x42_0_0).emb j)) = W :=
    funext fun j => congrArg W (unit_emb (s := S1536x42) _ _ j)
  have eb : (fun j => shapeCast S1x42 b shapeCasts_S42_S1x42 ((Rect.unit (s := S1x42) ![0, 0] S1x42.size inb_S1x42_S1x42_0_0).emb j))
      = shapeCast S1x42 b shapeCasts_S42_S1x42 :=
    funext fun j => congrArg _ (unit_emb (s := S1x42) _ _ j)
  have hb : broadcastTo S4x42 (shapeCast S1x42 (shapeCast S1x42 b shapeCasts_S42_S1x42) shapeCasts_S1x42_S1x42) broadcasts_S1x42_S4x42
      = broadcastInDim Cert.ReferenceIdeal.S4x42 ![0, 1] Cert.ReferenceIdeal.Gen.bcast_S1x42_S4x42_0_1
        (broadcastInDim Cert.ReferenceIdeal.S1x42 ![1] Cert.ReferenceIdeal.Gen.bcast_S42_S1x42_1 b) := by
    rw [shapeCast_self]
    funext i
    refine (broadcastTo_apply _ broadcasts_S1x42_S4x42 i (ix2 0 (i 1)) fun a => ?_).trans ((shapeCast_a_1a_apply b shapeCasts_S42_S1x42 0 (i 1)).trans
      (((broadcastInDim_apply _ _ _ i (ix2 0 (i 1)) fun a => ?_).trans (broadcastInDim_apply _ _ b _ (ix1 (i 1)) fun a => ?_)).symm))
    · match a with
      | ⟨0, _⟩ => rfl
      | ⟨1, _⟩ => rfl
    · match a with
      | ⟨0, _⟩ => rfl
      | ⟨1, _⟩ => rfl
    · match a with
      | ⟨0, _⟩ => rfl
  refine congrArg₂ addf ?_ ?_
  · exact (congrArg (fun w : FVec Ideal S1536x42 .f32 => matmul dot_S4x1536_S1536x42_S4x42_1_0_0_1_n_n none v w (constant S4x42 .f32 0x00000000#32)) eW).trans
      (matmul_zero_eq_dotGeneral _ none v W)
  · exact (congrArg (fun w : FVec Ideal S1x42 .f32 => broadcastTo S4x42 (shapeCast S1x42 w shapeCasts_S1x42_S1x42) broadcasts_S1x42_S4x42) eb).trans hb

/-! ## The counts -/

theorem counts_eq (m : S4x2048.Idx → BitVec 1) :
    Tc.counts (fun i => (m i).setWidth 32) = shapeCast S4x1 (Spec.cnt m) shapeCasts_S4_S4x1 := by
  unfold Tc.counts
  refine congrArg (fun y : IVec S4 32 => shapeCast S4x1 y shapeCasts_S4_S4x1) ?_
  funext j
  refine (congrFun (multiReductionI_eq_reduceFold .add _ 0#32 reduces_S4x2048_S4 rfl) j).trans ?_
  unfold Spec.cnt
  refine (reduceFold_eq_foldl _ _ _ _ j).trans ((Host.reduce_eq_foldl _ _ _ _ _ j).symm ▸ ?_)
  rw [shapeCast_self]
  have e : (fun k : S4x2048.Idx => (m ((Rect.unit (s := S4x2048) ![0, 0] S4x2048.size inb_S4x2048_S4x2048_0_0).emb k)).setWidth 32)
      = extui 32 m Cert.ReferenceIdeal.Gen.natLt_1_32 :=
    funext fun k => congrArg (fun k => (m k).setWidth 32) (unit_emb (s := S4x2048) _ _ k)
  exact congrArg (fun x : S4x2048.Idx → BitVec 32 => List.foldl (fun r i => IntOp.addi r (x i)) 0#32
    (((List.finRange S4x2048.numel).map S4x2048.rowMajor.symm).filter fun i => reduces_S4x2048_S4.drop i = j)) e

theorem list_counts : (List.finRange S1x4x1.numel).map S1x4x1.rowMajor.symm
    = [ix3 (n0 := 1) (n1 := 4) (n2 := 1) 0 0 0, ix3 0 1 0, ix3 0 2 0, ix3 0 3 0] := by decide +kernel

theorem list_counts' (j : Cert.ReferenceIdeal.S_.Idx) : ((List.finRange S4.numel).map S4.rowMajor.symm).filter
      (fun i => Cert.ReferenceIdeal.Gen.reducesTo_S4_S_d0.drop i = j)
    = [ix1 (0 : Fin 4), ix1 1, ix1 2, ix1 3] := by
  rw [List.filter_eq_self.2 fun i _ => decide_eq_true (funext fun b => Fin.elim0 b)]
  decide +kernel

theorem shapeCast_counts (n : IVec S4 32) (b : Fin 4) :
    shapeCast S1x4x1 (shapeCast S4x1 n shapeCasts_S4_S4x1) shapeCasts_S4x1_S1x4x1 (ix3 0 b 0) = n (ix1 b) := by
  refine (shapeCast_addUnit_apply ![4, 1] _ shapeCasts_S4x1_S1x4x1 (ix3 0 b 0)).trans ?_
  have e : (fun a => (ix3 (n0 := 1) (n1 := 4) (n2 := 1) 0 b 0) a.succ : S4x1.Idx) = ix2 b 0 := by
    funext a; apply Fin.ext
    match a with
    | ⟨0, _⟩ => rfl
    | ⟨1, _⟩ => rfl
  exact (congrArg (shapeCast S4x1 n shapeCasts_S4_S4x1) e).trans (shapeCast_a_a1_apply n shapeCasts_S4_S4x1 _ _)

/-- The largest of four words, and of the least. -/
def max4 (x : Fin 4 → BitVec 32) : BitVec 32 :=
  IntOp.maxsi (IntOp.maxsi (IntOp.maxsi (IntOp.maxsi 2147483648#32 (x 0)) (x 1)) (x 2)) (x 3)

theorem max_of_four (x : S1x4x1.Idx → BitVec 32) (j : S1.Idx) :
    multiReductionI .maxsi [1, 2] S1 x 2147483648#32 reduces_S1x4x1_S1 rfl j = max4 fun b => x (ix3 0 b 0) := by
  refine (congrFun (multiReductionI_eq_reduceFold .maxsi x _ reduces_S1x4x1_S1 rfl) j).trans ?_
  have hop : IKind.op .maxsi = (IntOp.maxsi : BitVec 32 → BitVec 32 → BitVec 32) := rfl
  rw [hop, reduceFold_eq_foldl_of_size_one reduces_S1x4x1_S1 (by decide) _ _ _ j, list_counts]
  rfl

theorem maxCnt_eq (n : IVec S4 32) (j : Cert.ReferenceIdeal.S_.Idx) : Spec.maxCnt n j = max4 fun b => n (ix1 b) := by
  unfold Spec.maxCnt
  refine (Host.reduce_eq_foldl _ _ _ _ _ j).trans ?_
  refine (congrArg (fun l => List.foldl (fun r i => IntOp.maxsi r (n i)) 2147483648#32 l) (list_counts' j)).trans ?_
  rfl

theorem extract_one (v : IVec S1 32) : ∃ j, extractAt ![0, 0, 0] (shapeCast S1x1x1 v shapeCasts_S1_S1x1x1) inpos_S1x1x1_p0_0_0 = v j := ⟨_, rfl⟩

theorem splat (t : Shape) (x : BitVec 32) (i : t.Idx) : broadcast t x i = x := rfl

theorem below_eq (m : S4x2048.Idx → BitVec 1) (b : Fin 4) (f : Fin 768) :
    Tc.below (Tc.counts fun i => (m i).setWidth 32) (ix2 b 0) = Spec.padded m (ix2 b f) := by
  rw [counts_eq]
  have hn : shapeCast S4x1 (Spec.cnt m) shapeCasts_S4_S4x1 (ix2 b 0) = Spec.cnt m (ix1 b) := shapeCast_a_a1_apply _ shapeCasts_S4_S4x1 _ _
  have e : Spec.padded m (ix2 b f) = IntOp.cmpi .slt (Spec.cnt m (ix1 b)) (Spec.maxCnt (Spec.cnt m) finZeroElim) := by
    unfold Spec.padded
    refine (broadcastInDim_apply _ _ _ (ix2 b f) (ix2 b 0) fun a => ?_).trans ((broadcastInDim_apply _ _ _ _ (ix1 b) fun a => ?_).trans ?_)
    · match a with
      | ⟨0, _⟩ => rfl
      | ⟨1, _⟩ => rfl
    · match a with
      | ⟨0, _⟩ => rfl
    · refine congrArg (IntOp.cmpi .slt (Spec.cnt m (ix1 b))) ?_
      exact broadcastInDim_apply _ _ _ _ finZeroElim fun a => Fin.elim0 a
  rw [e]
  unfold Tc.below
  refine congrArg₂ (IntOp.cmpi .slt) hn ?_
  obtain ⟨j, hj⟩ := extract_one (multiReductionI .maxsi [1, 2] S1 (shapeCast S1x4x1 (shapeCast S4x1 (Spec.cnt m) shapeCasts_S4_S4x1)
    shapeCasts_S4x1_S1x4x1) 2147483648#32 reduces_S1x4x1_S1 rfl)
  refine (splat _ _ _).trans (hj.trans ?_)
  rw [maxCnt_eq]
  refine (max_of_four (shapeCast S1x4x1 (shapeCast S4x1 (Spec.cnt m) shapeCasts_S4_S4x1) shapeCasts_S4x1_S1x4x1) j).trans
    (congrArg max4 (funext fun b => shapeCast_counts _ b))

/-! ## The dense rows -/

theorem mx_eq (X : S4x2048x768.Idx → Ideal .f32) (m : S4x2048.Idx → BitVec 1) (b : Fin 4) (f : Fin 768) :
    (Spec.mx X m (ix2 b f) : EReal) = pooled X m b f := by
  have hr : Shape.Reduces S4x2048x768 [1] S4x768 := by decide
  have hl : ∀ t : Fin 2048, hr.lift (ix2 b f) t = ix3 b t f := fun t => by
    funext a; apply Fin.ext
    match a with
    | ⟨0, _⟩ => rfl
    | ⟨1, _⟩ => rfl
    | ⟨2, _⟩ => rfl
  unfold Spec.mx
  refine (Host.reduce_eq_fold_single FloatOps.maximumf _ _ Cert.ReferenceIdeal.Gen.reducesTo_S4x2048x768_S4x768_d1 hr Cert.ReferenceIdeal.Gen.h_S_ _).trans ?_
  unfold pooled
  have hz : (constant (F := Ideal) Cert.ReferenceIdeal.S_ .f32 0xFF800000#32 (Shape.Idx.first Cert.ReferenceIdeal.Gen.h_S_) : EReal) = ⊥ := negInf_eq
  rw [hz]
  refine Finset.fold_congr fun t _ => ?_
  refine (congrArg _ (hl t)).trans ?_
  have hm : broadcastInDim Cert.ReferenceIdeal.S4x2048x768 ![0, 1, 2] Cert.ReferenceIdeal.Gen.bcast_S4x2048x1_S4x2048x768_0_1_2
      (broadcastInDim Cert.ReferenceIdeal.S4x2048x1 ![0, 1] Cert.ReferenceIdeal.Gen.bcast_S4x2048_S4x2048x1_0_1 m) (ix3 b t f) = m (ix2 b t) := by
    refine (broadcastInDim_apply _ _ _ (ix3 b t f) (ix3 b t 0) fun a => ?_).trans (broadcastInDim_apply _ _ m _ (ix2 b t) fun a => ?_)
    · match a with
      | ⟨0, _⟩ => rfl
      | ⟨1, _⟩ => rfl
      | ⟨2, _⟩ => rfl
    · match a with
      | ⟨0, _⟩ => rfl
      | ⟨1, _⟩ => rfl
  have hbot : (broadcastInDim Cert.ReferenceIdeal.S4x2048x768 ![] Cert.ReferenceIdeal.Gen.bcast_S_S4x2048x768
      (id (constant (F := Ideal) Cert.ReferenceIdeal.S_ .f32 0xFF800000#32)) (ix3 b t f) : EReal) = ⊥ := negInf_eq
  show (if _ = 1 then (X (ix3 b t f) : EReal) else _) = _
  rw [hm, hbot]
  rfl

/-- A row raised where it is padded, at an index. -/
theorem raised_congr {s : Shape} (p q : IVec s 1) (z z' v w : FVec Ideal s .f32) (i : s.Idx) (hp : p i = q i) (hz : z i = z' i) (hv : v i = w i) :
    select p (maximumf v z) v i = select q (maximumf w z') w i := by
  show Scalar.select (p i) (max (v i) (z i) : EReal) (v i) = Scalar.select (q i) (max (w i) (z' i) : EReal) (w i)
  rw [hp, hz, hv]

theorem side_eq (X : S4x2048x768.Idx → Ideal .f32) (m : S4x2048.Idx → BitVec 1) (lo : FVec Ideal S4x512 .f32) (hi : FVec Ideal S4x256 .f32)
    (hlo : ∀ b f, (lo (ix2 b f) : EReal) = pooled X m b (f.castLE (by decide)))
    (hhi : ∀ b (k : Fin 256), (hi (ix2 b k) : EReal) = pooled X m b ⟨512 + k.val, by omega⟩) :
    Tc.side lo hi (Tc.below (Tc.counts fun i => (m i).setWidth 32)) = Spec.side X m := by
  have hcat : ∀ (b : Fin 4) (f : Fin 768), (concatenate S4x768 1 [⟨S4x512, shapeCast S4x512 lo shapeCasts_S4x512_S4x512⟩,
      ⟨S4x256, shapeCast S4x256 hi shapeCasts_S4x256_S4x256⟩] concatenates_S4x512_S4x256_S4x768_d1 (ix2 b f) : EReal) = Spec.mx X m (ix2 b f) := by
    intro b f
    rw [mx_eq, shapeCast_self, shapeCast_self]
    by_cases hf : f.val < 512
    · refine (concatenate_pair_apply_left 1 lo hi concatenates_S4x512_S4x256_S4x768_d1 (ix2 b f) rfl (ix2 b ⟨f.val, hf⟩) fun a => ?_).trans ?_
      · match a with
        | ⟨0, _⟩ => rfl
        | ⟨1, _⟩ => rfl
      · exact hlo b ⟨f.val, hf⟩
    · have h256 : f.val - 512 < 256 := by omega
      refine (concatenate_pair_apply_right 1 lo hi concatenates_S4x512_S4x256_S4x768_d1 (ix2 b f) rfl rfl (ix2 b ⟨f.val - 512, h256⟩) (fun a ha => ?_) ?_).trans ?_
      · match a with
        | ⟨0, _⟩ => rfl
        | ⟨1, _⟩ => exact absurd rfl ha
      · show f.val - 512 + 512 = f.val
        omega
      · refine (hhi b ⟨f.val - 512, h256⟩).trans (congrArg (pooled X m b) (Fin.ext ?_))
        show 512 + (f.val - 512) = f.val
        omega
  funext i
  obtain ⟨b, f, rfl⟩ : ∃ (b : Fin 4) (f : Fin 768), i = ix2 b f := ⟨i 0, i 1, eq_ix2 i⟩
  have hp : broadcastTo S4x768 (shapeCast S4x1 (Tc.below (Tc.counts fun i => (m i).setWidth 32)) shapeCasts_S4x1_S4x1) broadcasts_S4x1_S4x768 (ix2 b f)
      = Spec.padded m (ix2 b f) := by
    rw [← below_eq, shapeCast_self]
    exact broadcastTo_apply _ broadcasts_S4x1_S4x768 (ix2 b f) (ix2 b 0) fun a => by
      match a with
      | ⟨0, _⟩ => rfl
      | ⟨1, _⟩ => rfl
  have h := hcat b f
  exact raised_congr _ _ _ _ _ _ (ix2 b f) hp rfl h

theorem dense_eq (X : S4x2048x768.Idx → Ideal .f32) (m₁ m₂ : S4x2048.Idx → BitVec 1) (B₁ B₂ : S4x2048x1.Idx → Ideal .f32)
    (h₁ : ∀ b t, (B₁ (ix3 b t 0) : EReal) = biasB (m₁ (ix2 b t))) (h₂ : ∀ b t, (B₂ (ix3 b t 0) : EReal) = biasB (m₂ (ix2 b t))) :
    Tc.dense (Tc.poolOut X B₁ B₂) (tailMax X fun i => (m₁ i).setWidth 32) (tailMax X fun i => (m₂ i).setWidth 32)
      (fun i => (m₁ i).setWidth 32) (fun i => (m₂ i).setWidth 32) = Spec.dense X m₁ m₂ := by
  have hp := pool_eq X m₁ m₂ B₁ B₂ h₁ h₂
  have ht : ∀ (m : S4x2048.Idx → BitVec 1) (b : Fin 4) (k : Fin 256),
      (tailMax X (fun i => (m i).setWidth 32) ((Rect.unit (s := S4x256) ![0, 0] S4x256.size inb_S4x256_S4x256_0_0).emb (ix2 b k)) : EReal)
        = pooled X m b ⟨512 + k.val, by omega⟩ := fun m b k => by
    refine (congrArg _ (unit_emb (s := S4x256) _ _ _)).trans ((tail_eq X m (ix2 b k)).trans ?_)
    exact congrArg (pooled X m b) (Fin.ext (Nat.mod_eq_of_lt (by have := k.isLt; show 512 + k.val < 768; omega)))
  have e₁ := side_eq X m₁ (fun j => Tc.poolOut X B₁ B₂ ((Rect.unit (s := S4x1024) ![0, 0] S4x512.size inb_S4x1024_S4x512_0_0).emb j))
    (fun j => tailMax X (fun i => (m₁ i).setWidth 32) ((Rect.unit (s := S4x256) ![0, 0] S4x256.size inb_S4x256_S4x256_0_0).emb j))
    (fun b f => by
      refine Eq.trans (congrArg (Tc.poolOut X B₁ B₂) ?_) (hp b f).1
      funext a; apply Fin.ext
      match a with
      | ⟨0, _⟩ => show 0 + 1 * b.val = b.val; omega
      | ⟨1, _⟩ => show 0 + 1 * f.val = f.val; omega)
    (ht m₁)
  have e₂ := side_eq X m₂ (fun j => Tc.poolOut X B₁ B₂ ((Rect.unit (s := S4x1024) ![0, 512] S4x512.size inb_S4x1024_S4x512_0_512).emb j))
    (fun j => tailMax X (fun i => (m₂ i).setWidth 32) ((Rect.unit (s := S4x256) ![0, 0] S4x256.size inb_S4x256_S4x256_0_0).emb j))
    (fun b f => by
      refine Eq.trans (congrArg (Tc.poolOut X B₁ B₂) ?_) (hp b f).2
      funext a; apply Fin.ext
      match a with
      | ⟨0, _⟩ => show 0 + 1 * b.val = b.val; omega
      | ⟨1, _⟩ => show 512 + 1 * f.val = 512 + f.val; omega)
    (ht m₂)
  unfold Tc.dense Spec.dense
  rw [e₁, e₂]

/-- The head's result is the reference's. -/
theorem head_eq (X : S4x2048x768.Idx → Ideal .f32) (m₁ m₂ : S4x2048.Idx → BitVec 1) (B₁ B₂ : S4x2048x1.Idx → Ideal .f32)
    (h₁ : ∀ b t, (B₁ (ix3 b t 0) : EReal) = biasB (m₁ (ix2 b t))) (h₂ : ∀ b t, (B₂ (ix3 b t 0) : EReal) = biasB (m₂ (ix2 b t)))
    (W : S1536x42.Idx → Ideal .f32) (b : S42.Idx → Ideal .f32) :
    Tc.headOut (Tc.poolOut X B₁ B₂) (tailMax X fun i => (m₁ i).setWidth 32) (tailMax X fun i => (m₂ i).setWidth 32)
      (fun i => (m₁ i).setWidth 32) (fun i => (m₂ i).setWidth 32) W (shapeCast S1x42 b shapeCasts_S42_S1x42)
      = Spec.soft (Spec.logits (Spec.dense X m₁ m₂) W b) := by
  unfold Tc.headOut
  rw [dense_eq X m₁ m₂ B₁ B₂ h₁ h₂, soft_eq, logits_eq]

end Cert.Proof.Value

end
-- ==== Proof.Algebraic.lean ====
/-
  The kernel's result over the extended reals is the reference's.
-/
module

public import proofs.«01_k».proof.Defs
public import proofs.«01_k».proof.Proof.Main
public import proofs.«01_k».proof.Proof.Scores

@[expose] public section

noncomputable section

namespace Cert.Proof.Value

open Cert.KernelIdeal Cert.KernelIdeal.Gen
open Cert.Proof.Chunk Cert.Proof.Launch
open Idealize.ShloMosaic Idealize.ShloMosaic.ValueIdx Idealize.SL.Sem

/-! ## What the operations before the calls leave -/

section Values

variable (V : Valuation τ sig (Elt Ideal))

/-- The masks widened, -/
theorem atCall_v0 : (atCall V (Proc.devRef .tc main_v0) : S4x2048.Idx → BitVec 32)
    = fun i => ((V (Proc.devRef .tc main_arg1) : S4x2048.Idx → BitVec 1) i).setWidth 32 := by
  unfold atCall
  simp only [ops1, StableHlo.TRef.ternary, StableHlo.TRef.unary, StableHlo.TRef.toBuf, StableHlo.TRef.ofBuf, cast_eq]
  after_results_simp <;> rfl
theorem atCall_v1 : (atCall V (Proc.devRef .tc main_v1) : S4x2048.Idx → BitVec 32)
    = fun i => ((V (Proc.devRef .tc main_arg2) : S4x2048.Idx → BitVec 1) i).setWidth 32 := by
  unfold atCall
  simp only [ops1, StableHlo.TRef.ternary, StableHlo.TRef.unary, StableHlo.TRef.toBuf, StableHlo.TRef.ofBuf, cast_eq]
  after_results_simp <;> rfl

/-- The array a mask is turned into: zero where it holds, `-∞` elsewhere. -/
def biasArr (m : S4x2048.Idx → BitVec 1) : S4x2048x1.Idx → Ideal .f32 :=
  shapeCast S4x2048x1 (select m (broadcastInDim S4x2048 ![] bcast_S_S4x2048 (id (constant (F := Ideal) S_ .f32 0x00000000#32)))
    (broadcastInDim S4x2048 ![] bcast_S_S4x2048 (constant (F := Ideal) S_ .f32 0xFF800000#32))) shapeCasts_S4x2048_S4x2048x1

theorem biasArr_eq (m : S4x2048.Idx → BitVec 1) (b : Fin 4) (t : Fin 2048) : (biasArr m (ix3 b t 0) : EReal) = biasB (m (ix2 b t)) := by
  refine (shapeCast_apply _ shapeCasts_S4x2048_S4x2048x1 (ix3 b t 0) (ix2 b t) ?_).trans ?_
  · rw [Shape.rowMajor_val_two, Shape.rowMajor_val_three]
    show b.val * 2048 + t.val = (b.val * 2048 + t.val) * 1 + 0
    omega
  · show (if m (ix2 b t) = 1 then Ideal.ofBits .f32 0x00000000#32 else Ideal.ofBits .f32 0xFF800000#32 : EReal) = _
    rw [Ideal.ofBits_zero_f32, negInf_eq]
    rfl

theorem atCall_v3 : (atCall V (Proc.devRef .tc main_v3) : S4x2048x1.Idx → Ideal .f32) = biasArr (V (Proc.devRef .tc main_arg1)) := by
  unfold atCall
  simp only [ops1, StableHlo.TRef.ternary, StableHlo.TRef.unary, StableHlo.TRef.toBuf, StableHlo.TRef.ofBuf, cast_eq]
  after_results_simp <;> rfl
theorem atCall_v5 : (atCall V (Proc.devRef .tc main_v5) : S4x2048x1.Idx → Ideal .f32) = biasArr (V (Proc.devRef .tc main_arg2)) := by
  unfold atCall
  simp only [ops1, StableHlo.TRef.ternary, StableHlo.TRef.unary, StableHlo.TRef.toBuf, StableHlo.TRef.ofBuf, cast_eq]
  after_results_simp <;> rfl

theorem ne_of_ref {a b : Ref sig .tc} (h : a ≠ b) : (Proc.devRef .tc a : DevRef τ sig) ≠ Proc.devRef .tc b :=
  fun e => h (Proc.devRef_injective _ e)

/-- An array neither call writes, -/
theorem afterCall_ref (b : Ref sig .tc) (h₀ : b ≠ main_v6_0) (h₁ : b ≠ main_v6_1) :
    afterCall (atCall V) (Proc.devRef .tc b) = atCall V (Proc.devRef .tc b) := afterCall_ne _ _ (ne_of_ref h₀) (ne_of_ref h₁)

/-- The head's inputs: the pooled features, -/
theorem atHead_pool : (atHead V (Proc.devRef .tc main_v7) : S4x1024.Idx → Ideal .f32)
    = Tc.poolOut (V (Proc.devRef .tc main_arg0)) (biasArr (V (Proc.devRef .tc main_arg1))) (biasArr (V (Proc.devRef .tc main_arg2))) := by
  refine (StableHlo.after_of_forall_not_mem ops2 _ fun op h => ?_).trans ((Tc.out1_self _).trans ?_)
  · simp only [ops2, List.mem_cons, List.not_mem_nil, or_false] at h
    subst h
    exact not_written (by decide)
  · have h₀ : Tc.arg0 (afterCall (atCall V)) = V (Proc.devRef .tc main_arg0) :=
      (afterCall_ref V main_arg0 (by decide) (by decide)).trans (atCall_args V _ (by simp))
    have h₁ : Tc.bias1 (afterCall (atCall V)) = biasArr (V (Proc.devRef .tc main_arg1)) :=
      (afterCall_ref V main_v3 (by decide) (by decide)).trans (atCall_v3 V)
    have h₂ : Tc.bias2 (afterCall (atCall V)) = biasArr (V (Proc.devRef .tc main_arg2)) :=
      (afterCall_ref V main_v5 (by decide) (by decide)).trans (atCall_v5 V)
    rw [h₀, h₁, h₂]

/-- the SparseCore's maxima, -/
theorem atHead_tail1 : (atHead V (Proc.devRef .tc main_v6_0) : S4x256.Idx → Ideal .f32)
    = tailMax (F := Ideal) (V (Proc.devRef .tc main_arg0)) fun i => ((V (Proc.devRef .tc main_arg1) : S4x2048.Idx → BitVec 1) i).setWidth 32 := by
  refine (atHead_ne V main_v6_0 (by decide) (by decide)).trans ?_
  unfold afterCall
  rw [Function.update_of_ne (ne_of_ref (by decide)), Function.update_self, atCall_v0, atCall_args V main_arg0 (by simp)]
  rfl
theorem atHead_tail2 : (atHead V (Proc.devRef .tc main_v6_1) : S4x256.Idx → Ideal .f32)
    = tailMax (F := Ideal) (V (Proc.devRef .tc main_arg0)) fun i => ((V (Proc.devRef .tc main_arg2) : S4x2048.Idx → BitVec 1) i).setWidth 32 := by
  refine (atHead_ne V main_v6_1 (by decide) (by decide)).trans ?_
  unfold afterCall
  rw [Function.update_self, atCall_v1, atCall_args V main_arg0 (by simp)]
  rfl

/-- the masks, -/
theorem atHead_mask1 : (atHead V (Proc.devRef .tc main_v0) : S4x2048.Idx → BitVec 32)
    = fun i => ((V (Proc.devRef .tc main_arg1) : S4x2048.Idx → BitVec 1) i).setWidth 32 :=
  (atHead_ne V main_v0 (by decide) (by decide)).trans ((afterCall_ref V main_v0 (by decide) (by decide)).trans (atCall_v0 V))
theorem atHead_mask2 : (atHead V (Proc.devRef .tc main_v1) : S4x2048.Idx → BitVec 32)
    = fun i => ((V (Proc.devRef .tc main_arg2) : S4x2048.Idx → BitVec 1) i).setWidth 32 :=
  (atHead_ne V main_v1 (by decide) (by decide)).trans ((afterCall_ref V main_v1 (by decide) (by decide)).trans (atCall_v1 V))

/-- the weights, -/
theorem atHead_wts : atHead V (Proc.devRef .tc main_arg3) = V (Proc.devRef .tc main_arg3) :=
  (atHead_ne V main_arg3 (by decide) (by decide)).trans
    ((afterCall_ref V main_arg3 (by decide) (by decide)).trans (atCall_args V _ (by simp)))

/-- and the bias as one row. -/
theorem atHead_bs : (atHead V (Proc.devRef .tc main_v8) : S1x42.Idx → Ideal .f32)
    = shapeCast S1x42 (V (Proc.devRef .tc main_arg4) : S42.Idx → Ideal .f32) shapeCasts_S42_S1x42 := by
  have h : Tc.out1 (afterCall (atCall V)) (Proc.devRef .tc main_arg4) = V (Proc.devRef .tc main_arg4) :=
    (Tc.out1_ne _ main_arg4 (ne_of_ref (by decide))).trans
      ((afterCall_ref V main_arg4 (by decide) (by decide)).trans (atCall_args V _ (by simp)))
  rw [← h]
  unfold atHead
  generalize Tc.out1 (afterCall (atCall V)) = U
  simp only [ops2]
  after_results_simp
  rfl

/-- The result at the end. -/
theorem atEnd_res : (atEnd V (Proc.devRef .tc main_v9) : S4x42.Idx → Ideal .f32)
    = Spec.soft (F := Ideal) (Spec.logits (Spec.dense (V (Proc.devRef .tc main_arg0)) (V (Proc.devRef .tc main_arg1)) (V (Proc.devRef .tc main_arg2)))
        (V (Proc.devRef .tc main_arg3)) (V (Proc.devRef .tc main_arg4))) := by
  refine (Tc.out2_self (atHead V)).trans ?_
  unfold Tc.headOf
  have h₁ : Tc.pool (atHead V) = _ := atHead_pool V
  have h₂ : Tc.tail1 (atHead V) = _ := atHead_tail1 V
  have h₃ : Tc.tail2 (atHead V) = _ := atHead_tail2 V
  have h₄ : Tc.mask1 (atHead V) = _ := atHead_mask1 V
  have h₅ : Tc.mask2 (atHead V) = _ := atHead_mask2 V
  have h₆ : Tc.wts (atHead V) = _ := atHead_wts V
  have h₇ : Tc.bs (atHead V) = _ := atHead_bs V
  rw [h₁, h₂, h₃, h₄, h₅, h₆, h₇]
  exact head_eq _ _ _ _ _ (biasArr_eq _) (biasArr_eq _) _ _

end Values

end Cert.Proof.Value

namespace Cert.Proof

open Idealize.ShloMosaic Idealize.SL.Sem

/-- The kernel and the reference end with the same scores. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Launch.atEnd (Launch.start m c) (Proc.devRef .tc Cert.KernelIdeal.main_v9),
    (θ_run Cert.KernelIdeal.defs _ _).mono (fun _ h c =>
      ⟨h.1 c Cert.KernelIdeal.main_v9 rfl,
        (h.1 c Cert.KernelIdeal.main_arg0 rfl).trans (Launch.kept_args _ _ (by simp)), (h.1 c Cert.KernelIdeal.main_arg1 rfl).trans (Launch.kept_args _ _ (by simp)),
        (h.1 c Cert.KernelIdeal.main_arg2 rfl).trans (Launch.kept_args _ _ (by simp)), (h.1 c Cert.KernelIdeal.main_arg3 rfl).trans (Launch.kept_args _ _ (by simp)),
        (h.1 c Cert.KernelIdeal.main_arg4 rfl).trans (Launch.kept_args _ _ (by simp))⟩) (Launch.run_main (F := Ideal) m g),
    (θ_run Cert.ReferenceIdeal.defs _ _).mono (fun _ h c => by
      obtain ⟨a₀, a₁, a₂, a₃, a₄⟩ := hargs c
      refine ⟨((h c).1.trans (Spec.res_eq m' c)).trans ?_, (h c).2⟩
      rw [a₀, a₁, a₂, a₃, a₄]
      exact (Value.atEnd_res (Launch.start m c)).symm) (Cert.ReferenceIdeal.Value.run (F := Ideal) m' g')⟩

end Cert.Proof

end
-- ==== Proof.lean ====
/-
  The claims: the kernel and its idealization run to the end and keep their arguments, the reference does, the idealization
  rewrites nothing, and over the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_kernel, frame_ideal, frame_reference, trivial, algebraic⟩

end Cert.Proof

end
